-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![128, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![2048, 256]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![256, 2048]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![2048, 256]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![256, 2048]⟩ 1 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![2048, 256]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![256, 2048]⟩ 1 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 128]⟩ ⟨2, ![128, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S24x32x256 : Shape := ⟨3, ![24, 32, 256]⟩
abbrev S72x32x256 : Shape := ⟨3, ![72, 32, 256]⟩
abbrev S72 : Shape := ⟨1, ![72]⟩
abbrev S_ : Shape := ⟨0, ![]⟩
abbrev S32x256 : Shape := ⟨2, ![32, 256]⟩
abbrev S1x32x256 : Shape := ⟨3, ![1, 32, 256]⟩
abbrev S1 : Shape := ⟨1, ![1]⟩
abbrev S32x128 : Shape := ⟨2, ![32, 128]⟩

abbrev nBuf : Space → Nat
  | .hbm => 8
  | .vmem => 10
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S256x128, .f32⟩
  | .hbm, ⟨3, _⟩ => ⟨S128x256, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S128x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S128x128, .f32⟩
  | .local _ .vmem, ⟨8, _⟩ => ⟨S24x32x256, .f32⟩
  | .local _ .vmem, ⟨9, _⟩ => ⟨S72x32x256, .f32⟩
  | _, _ => ⟨S128x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 152 → Bool
  | ⟨i, _⟩ => dmaSemScopedAt i

abbrev sig : RefSig :=
  (ofTc nBuf bufTy 1 152 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v37 : BitVec 32 := Scalar.muli v19 c4_i32_15
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32 : BitVec 32 := 2#32
  let v35 : BitVec 32 := Scalar.muli v33 c2_i32
  let c1_i32_14 : BitVec 32 := 1#32
  let c1_i32_12 : BitVec 32 := 1#32
  let v32 : BitVec 32 := Scalar.andi v31 c1_i32_12
  let v34 : BitVec 32 := Scalar.subi c1_i32_14 v32
  let v36 : BitVec 32 := Scalar.addi v35 v34
  let c1_i32_16 : BitVec 32 := 1#32
  let v38 : BitVec 32 := Scalar.shrsi v36 c1_i32_16
  let v39 : BitVec 32 := Scalar.xori v36 v38
  let v40 : BitVec 32 := Scalar.addi v37 v39
  let c1_i32_56 : BitVec 32 := 1#32
  let v108 : BitVec 32 := Scalar.muli v40 c1_i32_56
  let v109 : BitVec 32 := Scalar.addi c0_i32_57 v108
  v109.toNat
def k0_dev2 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v44 : BitVec 32 := Scalar.muli v19 c4_i32_19
  let c1_i32_17 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v41 : BitVec 32 := Scalar.subi c1_i32_17 v33
  let c2_i32_18 : BitVec 32 := 2#32
  let v42 : BitVec 32 := Scalar.muli v41 c2_i32_18
  let c1_i32_12 : BitVec 32 := 1#32
  let v32 : BitVec 32 := Scalar.andi v31 c1_i32_12
  let v43 : BitVec 32 := Scalar.addi v42 v32
  let c1_i32_20 : BitVec 32 := 1#32
  let v45 : BitVec 32 := Scalar.shrsi v43 c1_i32_20
  let v46 : BitVec 32 := Scalar.xori v43 v45
  let v47 : BitVec 32 := Scalar.addi v44 v46
  let c1_i32_59 : BitVec 32 := 1#32
  let v110 : BitVec 32 := Scalar.muli v47 c1_i32_59
  let v111 : BitVec 32 := Scalar.addi c0_i32_60 v110
  v111.toNat
def k0_dev3 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v52 : BitVec 32 := Scalar.muli v19 c4_i32_24
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v49 : BitVec 32 := Scalar.subi c1_i32_22 v33
  let c2_i32_23 : BitVec 32 := 2#32
  let v50 : BitVec 32 := Scalar.muli v49 c2_i32_23
  let c1_i32_21 : BitVec 32 := 1#32
  let c1_i32_12 : BitVec 32 := 1#32
  let v32 : BitVec 32 := Scalar.andi v31 c1_i32_12
  let v48 : BitVec 32 := Scalar.subi c1_i32_21 v32
  let v51 : BitVec 32 := Scalar.addi v50 v48
  let c1_i32_25 : BitVec 32 := 1#32
  let v53 : BitVec 32 := Scalar.shrsi v51 c1_i32_25
  let v54 : BitVec 32 := Scalar.xori v51 v53
  let v55 : BitVec 32 := Scalar.addi v52 v54
  let c1_i32_62 : BitVec 32 := 1#32
  let v112 : BitVec 32 := Scalar.muli v55 c1_i32_62
  let v113 : BitVec 32 := Scalar.addi c0_i32_63 v112
  v113.toNat
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_34 : BitVec 32 := 4#32
  let v69 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_33 : BitVec 32 := 2#32
  let v67 : BitVec 32 := Scalar.muli v33 c2_i32_33
  let c1_i32_12 : BitVec 32 := 1#32
  let v32 : BitVec 32 := Scalar.andi v31 c1_i32_12
  let v68 : BitVec 32 := Scalar.addi v67 v32
  let c1_i32_35 : BitVec 32 := 1#32
  let v70 : BitVec 32 := Scalar.shrsi v68 c1_i32_35
  let v71 : BitVec 32 := Scalar.xori v68 v70
  let v72 : BitVec 32 := Scalar.addi v69 v71
  let c1_i32_65 : BitVec 32 := 1#32
  let v114 : BitVec 32 := Scalar.muli v72 c1_i32_65
  let v115 : BitVec 32 := Scalar.addi c0_i32_66 v114
  v115.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_36 : BitVec 32 := 2#32
  let v73 : BitVec 32 := Scalar.addi v19 c2_i32_36
  let c4_i32_37 : BitVec 32 := 4#32
  let c0_i32_38 : BitVec 32 := 0#32
  let v74 : BitVec 1 := Scalar.cmpi .eq c4_i32_37 c0_i32_38
  let c1_i32_39 : BitVec 32 := 1#32
  let v75 : BitVec 32 := Scalar.select v74 c1_i32_39 c4_i32_37
  let v76 : BitVec 32 := Scalar.remsi v73 v75
  let c0_i32_41 : BitVec 32 := 0#32
  let v78 : BitVec 1 := Scalar.cmpi .slt v76 c0_i32_41
  let c0_i32_42 : BitVec 32 := 0#32
  let v79 : BitVec 1 := Scalar.cmpi .slt v75 c0_i32_42
  let v80 : BitVec 1 := Scalar.xori v78 v79
  let c0_i32_40 : BitVec 32 := 0#32
  let v77 : BitVec 1 := Scalar.cmpi .ne v76 c0_i32_40
  let v81 : BitVec 1 := Scalar.andi v80 v77
  let v82 : BitVec 32 := Scalar.addi v76 v75
  let v83 : BitVec 32 := Scalar.select v81 v82 v76
  let c4_i32_44 : BitVec 32 := 4#32
  let v86 : BitVec 32 := Scalar.muli v83 c4_i32_44
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_43 : BitVec 32 := 2#32
  let v84 : BitVec 32 := Scalar.muli v33 c2_i32_43
  let c1_i32_12 : BitVec 32 := 1#32
  let v32 : BitVec 32 := Scalar.andi v31 c1_i32_12
  let v85 : BitVec 32 := Scalar.addi v84 v32
  let c1_i32_45 : BitVec 32 := 1#32
  let v87 : BitVec 32 := Scalar.shrsi v85 c1_i32_45
  let v88 : BitVec 32 := Scalar.xori v85 v87
  let v89 : BitVec 32 := Scalar.addi v86 v88
  let c1_i32_68 : BitVec 32 := 1#32
  let v116 : BitVec 32 := Scalar.muli v89 c1_i32_68
  let v117 : BitVec 32 := Scalar.addi c0_i32_69 v116
  v117.toNat
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v90 : BitVec 32 := Scalar.addi v19 c3_i32
  let c4_i32_46 : BitVec 32 := 4#32
  let c0_i32_47 : BitVec 32 := 0#32
  let v91 : BitVec 1 := Scalar.cmpi .eq c4_i32_46 c0_i32_47
  let c1_i32_48 : BitVec 32 := 1#32
  let v92 : BitVec 32 := Scalar.select v91 c1_i32_48 c4_i32_46
  let v93 : BitVec 32 := Scalar.remsi v90 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c4_i32_53 : BitVec 32 := 4#32
  let v103 : BitVec 32 := Scalar.muli v100 c4_i32_53
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_52 : BitVec 32 := 2#32
  let v101 : BitVec 32 := Scalar.muli v33 c2_i32_52
  let c1_i32_12 : BitVec 32 := 1#32
  let v32 : BitVec 32 := Scalar.andi v31 c1_i32_12
  let v102 : BitVec 32 := Scalar.addi v101 v32
  let c1_i32_54 : BitVec 32 := 1#32
  let v104 : BitVec 32 := Scalar.shrsi v102 c1_i32_54
  let v105 : BitVec 32 := Scalar.xori v102 v104
  let v106 : BitVec 32 := Scalar.addi v103 v105
  let c1_i32_71 : BitVec 32 := 1#32
  let v118 : BitVec 32 := Scalar.muli v106 c1_i32_71
  let v119 : BitVec 32 := Scalar.addi c0_i32_72 v118
  v119.toNat
def k0_dev7 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v37 : BitVec 32 := Scalar.muli v19 c4_i32_15
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32 : BitVec 32 := 2#32
  let v35 : BitVec 32 := Scalar.muli v33 c2_i32
  let c1_i32_14 : BitVec 32 := 1#32
  let c1_i32_12 : BitVec 32 := 1#32
  let v32 : BitVec 32 := Scalar.andi v31 c1_i32_12
  let v34 : BitVec 32 := Scalar.subi c1_i32_14 v32
  let v36 : BitVec 32 := Scalar.addi v35 v34
  let c1_i32_16 : BitVec 32 := 1#32
  let v38 : BitVec 32 := Scalar.shrsi v36 c1_i32_16
  let v39 : BitVec 32 := Scalar.xori v36 v38
  let v40 : BitVec 32 := Scalar.addi v37 v39
  let c1_i32_83 : BitVec 32 := 1#32
  let v132 : BitVec 32 := Scalar.muli v40 c1_i32_83
  let v133 : BitVec 32 := Scalar.addi c0_i32_84 v132
  v133.toNat
def k0_dev8 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v44 : BitVec 32 := Scalar.muli v19 c4_i32_19
  let c1_i32_17 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v41 : BitVec 32 := Scalar.subi c1_i32_17 v33
  let c2_i32_18 : BitVec 32 := 2#32
  let v42 : BitVec 32 := Scalar.muli v41 c2_i32_18
  let c1_i32_12 : BitVec 32 := 1#32
  let v32 : BitVec 32 := Scalar.andi v31 c1_i32_12
  let v43 : BitVec 32 := Scalar.addi v42 v32
  let c1_i32_20 : BitVec 32 := 1#32
  let v45 : BitVec 32 := Scalar.shrsi v43 c1_i32_20
  let v46 : BitVec 32 := Scalar.xori v43 v45
  let v47 : BitVec 32 := Scalar.addi v44 v46
  let c1_i32_93 : BitVec 32 := 1#32
  let v142 : BitVec 32 := Scalar.muli v47 c1_i32_93
  let v143 : BitVec 32 := Scalar.addi c0_i32_94 v142
  v143.toNat
def k0_dev9 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v52 : BitVec 32 := Scalar.muli v19 c4_i32_24
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v49 : BitVec 32 := Scalar.subi c1_i32_22 v33
  let c2_i32_23 : BitVec 32 := 2#32
  let v50 : BitVec 32 := Scalar.muli v49 c2_i32_23
  let c1_i32_21 : BitVec 32 := 1#32
  let c1_i32_12 : BitVec 32 := 1#32
  let v32 : BitVec 32 := Scalar.andi v31 c1_i32_12
  let v48 : BitVec 32 := Scalar.subi c1_i32_21 v32
  let v51 : BitVec 32 := Scalar.addi v50 v48
  let c1_i32_25 : BitVec 32 := 1#32
  let v53 : BitVec 32 := Scalar.shrsi v51 c1_i32_25
  let v54 : BitVec 32 := Scalar.xori v51 v53
  let v55 : BitVec 32 := Scalar.addi v52 v54
  let c1_i32_103 : BitVec 32 := 1#32
  let v152 : BitVec 32 := Scalar.muli v55 c1_i32_103
  let v153 : BitVec 32 := Scalar.addi c0_i32_104 v152
  v153.toNat
def k0_dev10 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_34 : BitVec 32 := 4#32
  let v69 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_33 : BitVec 32 := 2#32
  let v67 : BitVec 32 := Scalar.muli v33 c2_i32_33
  let c1_i32_12 : BitVec 32 := 1#32
  let v32 : BitVec 32 := Scalar.andi v31 c1_i32_12
  let v68 : BitVec 32 := Scalar.addi v67 v32
  let c1_i32_35 : BitVec 32 := 1#32
  let v70 : BitVec 32 := Scalar.shrsi v68 c1_i32_35
  let v71 : BitVec 32 := Scalar.xori v68 v70
  let v72 : BitVec 32 := Scalar.addi v69 v71
  let c1_i32_112 : BitVec 32 := 1#32
  let v165 : BitVec 32 := Scalar.muli v72 c1_i32_112
  let v166 : BitVec 32 := Scalar.addi c0_i32_113 v165
  v166.toNat
def k0_dev11 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_36 : BitVec 32 := 2#32
  let v73 : BitVec 32 := Scalar.addi v19 c2_i32_36
  let c4_i32_37 : BitVec 32 := 4#32
  let c0_i32_38 : BitVec 32 := 0#32
  let v74 : BitVec 1 := Scalar.cmpi .eq c4_i32_37 c0_i32_38
  let c1_i32_39 : BitVec 32 := 1#32
  let v75 : BitVec 32 := Scalar.select v74 c1_i32_39 c4_i32_37
  let v76 : BitVec 32 := Scalar.remsi v73 v75
  let c0_i32_41 : BitVec 32 := 0#32
  let v78 : BitVec 1 := Scalar.cmpi .slt v76 c0_i32_41
  let c0_i32_42 : BitVec 32 := 0#32
  let v79 : BitVec 1 := Scalar.cmpi .slt v75 c0_i32_42
  let v80 : BitVec 1 := Scalar.xori v78 v79
  let c0_i32_40 : BitVec 32 := 0#32
  let v77 : BitVec 1 := Scalar.cmpi .ne v76 c0_i32_40
  let v81 : BitVec 1 := Scalar.andi v80 v77
  let v82 : BitVec 32 := Scalar.addi v76 v75
  let v83 : BitVec 32 := Scalar.select v81 v82 v76
  let c4_i32_44 : BitVec 32 := 4#32
  let v86 : BitVec 32 := Scalar.muli v83 c4_i32_44
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_43 : BitVec 32 := 2#32
  let v84 : BitVec 32 := Scalar.muli v33 c2_i32_43
  let c1_i32_12 : BitVec 32 := 1#32
  let v32 : BitVec 32 := Scalar.andi v31 c1_i32_12
  let v85 : BitVec 32 := Scalar.addi v84 v32
  let c1_i32_45 : BitVec 32 := 1#32
  let v87 : BitVec 32 := Scalar.shrsi v85 c1_i32_45
  let v88 : BitVec 32 := Scalar.xori v85 v87
  let v89 : BitVec 32 := Scalar.addi v86 v88
  let c1_i32_122 : BitVec 32 := 1#32
  let v175 : BitVec 32 := Scalar.muli v89 c1_i32_122
  let v176 : BitVec 32 := Scalar.addi c0_i32_123 v175
  v176.toNat
def k0_dev12 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v90 : BitVec 32 := Scalar.addi v19 c3_i32
  let c4_i32_46 : BitVec 32 := 4#32
  let c0_i32_47 : BitVec 32 := 0#32
  let v91 : BitVec 1 := Scalar.cmpi .eq c4_i32_46 c0_i32_47
  let c1_i32_48 : BitVec 32 := 1#32
  let v92 : BitVec 32 := Scalar.select v91 c1_i32_48 c4_i32_46
  let v93 : BitVec 32 := Scalar.remsi v90 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c4_i32_53 : BitVec 32 := 4#32
  let v103 : BitVec 32 := Scalar.muli v100 c4_i32_53
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_52 : BitVec 32 := 2#32
  let v101 : BitVec 32 := Scalar.muli v33 c2_i32_52
  let c1_i32_12 : BitVec 32 := 1#32
  let v32 : BitVec 32 := Scalar.andi v31 c1_i32_12
  let v102 : BitVec 32 := Scalar.addi v101 v32
  let c1_i32_54 : BitVec 32 := 1#32
  let v104 : BitVec 32 := Scalar.shrsi v102 c1_i32_54
  let v105 : BitVec 32 := Scalar.xori v102 v104
  let v106 : BitVec 32 := Scalar.addi v103 v105
  let c1_i32_132 : BitVec 32 := 1#32
  let v185 : BitVec 32 := Scalar.muli v106 c1_i32_132
  let v186 : BitVec 32 := Scalar.addi c0_i32_133 v185
  v186.toNat
def k0_dev13 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v37 : BitVec 32 := Scalar.muli v19 c4_i32_15
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32 : BitVec 32 := 2#32
  let v35 : BitVec 32 := Scalar.muli v33 c2_i32
  let c1_i32_14 : BitVec 32 := 1#32
  let c1_i32_12 : BitVec 32 := 1#32
  let v32 : BitVec 32 := Scalar.andi v31 c1_i32_12
  let v34 : BitVec 32 := Scalar.subi c1_i32_14 v32
  let v36 : BitVec 32 := Scalar.addi v35 v34
  let c1_i32_16 : BitVec 32 := 1#32
  let v38 : BitVec 32 := Scalar.shrsi v36 c1_i32_16
  let v39 : BitVec 32 := Scalar.xori v36 v38
  let v40 : BitVec 32 := Scalar.addi v37 v39
  let c1_i32_144 : BitVec 32 := 1#32
  let v198 : BitVec 32 := Scalar.muli v40 c1_i32_144
  let v199 : BitVec 32 := Scalar.addi c0_i32_145 v198
  v199.toNat
def k0_dev14 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v44 : BitVec 32 := Scalar.muli v19 c4_i32_19
  let c1_i32_17 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v41 : BitVec 32 := Scalar.subi c1_i32_17 v33
  let c2_i32_18 : BitVec 32 := 2#32
  let v42 : BitVec 32 := Scalar.muli v41 c2_i32_18
  let c1_i32_12 : BitVec 32 := 1#32
  let v32 : BitVec 32 := Scalar.andi v31 c1_i32_12
  let v43 : BitVec 32 := Scalar.addi v42 v32
  let c1_i32_20 : BitVec 32 := 1#32
  let v45 : BitVec 32 := Scalar.shrsi v43 c1_i32_20
  let v46 : BitVec 32 := Scalar.xori v43 v45
  let v47 : BitVec 32 := Scalar.addi v44 v46
  let c1_i32_153 : BitVec 32 := 1#32
  let v208 : BitVec 32 := Scalar.muli v47 c1_i32_153
  let v209 : BitVec 32 := Scalar.addi c0_i32_154 v208
  v209.toNat
def k0_dev15 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v52 : BitVec 32 := Scalar.muli v19 c4_i32_24
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v49 : BitVec 32 := Scalar.subi c1_i32_22 v33
  let c2_i32_23 : BitVec 32 := 2#32
  let v50 : BitVec 32 := Scalar.muli v49 c2_i32_23
  let c1_i32_21 : BitVec 32 := 1#32
  let c1_i32_12 : BitVec 32 := 1#32
  let v32 : BitVec 32 := Scalar.andi v31 c1_i32_12
  let v48 : BitVec 32 := Scalar.subi c1_i32_21 v32
  let v51 : BitVec 32 := Scalar.addi v50 v48
  let c1_i32_25 : BitVec 32 := 1#32
  let v53 : BitVec 32 := Scalar.shrsi v51 c1_i32_25
  let v54 : BitVec 32 := Scalar.xori v51 v53
  let v55 : BitVec 32 := Scalar.addi v52 v54
  let c1_i32_162 : BitVec 32 := 1#32
  let v218 : BitVec 32 := Scalar.muli v55 c1_i32_162
  let v219 : BitVec 32 := Scalar.addi c0_i32_163 v218
  v219.toNat
def k0_dev16 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_34 : BitVec 32 := 4#32
  let v69 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_33 : BitVec 32 := 2#32
  let v67 : BitVec 32 := Scalar.muli v33 c2_i32_33
  let c1_i32_12 : BitVec 32 := 1#32
  let v32 : BitVec 32 := Scalar.andi v31 c1_i32_12
  let v68 : BitVec 32 := Scalar.addi v67 v32
  let c1_i32_35 : BitVec 32 := 1#32
  let v70 : BitVec 32 := Scalar.shrsi v68 c1_i32_35
  let v71 : BitVec 32 := Scalar.xori v68 v70
  let v72 : BitVec 32 := Scalar.addi v69 v71
  let c1_i32_172 : BitVec 32 := 1#32
  let v231 : BitVec 32 := Scalar.muli v72 c1_i32_172
  let v232 : BitVec 32 := Scalar.addi c0_i32_173 v231
  v232.toNat
def k0_dev17 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_36 : BitVec 32 := 2#32
  let v73 : BitVec 32 := Scalar.addi v19 c2_i32_36
  let c4_i32_37 : BitVec 32 := 4#32
  let c0_i32_38 : BitVec 32 := 0#32
  let v74 : BitVec 1 := Scalar.cmpi .eq c4_i32_37 c0_i32_38
  let c1_i32_39 : BitVec 32 := 1#32
  let v75 : BitVec 32 := Scalar.select v74 c1_i32_39 c4_i32_37
  let v76 : BitVec 32 := Scalar.remsi v73 v75
  let c0_i32_41 : BitVec 32 := 0#32
  let v78 : BitVec 1 := Scalar.cmpi .slt v76 c0_i32_41
  let c0_i32_42 : BitVec 32 := 0#32
  let v79 : BitVec 1 := Scalar.cmpi .slt v75 c0_i32_42
  let v80 : BitVec 1 := Scalar.xori v78 v79
  let c0_i32_40 : BitVec 32 := 0#32
  let v77 : BitVec 1 := Scalar.cmpi .ne v76 c0_i32_40
  let v81 : BitVec 1 := Scalar.andi v80 v77
  let v82 : BitVec 32 := Scalar.addi v76 v75
  let v83 : BitVec 32 := Scalar.select v81 v82 v76
  let c4_i32_44 : BitVec 32 := 4#32
  let v86 : BitVec 32 := Scalar.muli v83 c4_i32_44
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_43 : BitVec 32 := 2#32
  let v84 : BitVec 32 := Scalar.muli v33 c2_i32_43
  let c1_i32_12 : BitVec 32 := 1#32
  let v32 : BitVec 32 := Scalar.andi v31 c1_i32_12
  let v85 : BitVec 32 := Scalar.addi v84 v32
  let c1_i32_45 : BitVec 32 := 1#32
  let v87 : BitVec 32 := Scalar.shrsi v85 c1_i32_45
  let v88 : BitVec 32 := Scalar.xori v85 v87
  let v89 : BitVec 32 := Scalar.addi v86 v88
  let c1_i32_181 : BitVec 32 := 1#32
  let v241 : BitVec 32 := Scalar.muli v89 c1_i32_181
  let v242 : BitVec 32 := Scalar.addi c0_i32_182 v241
  v242.toNat
def k0_dev18 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v90 : BitVec 32 := Scalar.addi v19 c3_i32
  let c4_i32_46 : BitVec 32 := 4#32
  let c0_i32_47 : BitVec 32 := 0#32
  let v91 : BitVec 1 := Scalar.cmpi .eq c4_i32_46 c0_i32_47
  let c1_i32_48 : BitVec 32 := 1#32
  let v92 : BitVec 32 := Scalar.select v91 c1_i32_48 c4_i32_46
  let v93 : BitVec 32 := Scalar.remsi v90 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c4_i32_53 : BitVec 32 := 4#32
  let v103 : BitVec 32 := Scalar.muli v100 c4_i32_53
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_52 : BitVec 32 := 2#32
  let v101 : BitVec 32 := Scalar.muli v33 c2_i32_52
  let c1_i32_12 : BitVec 32 := 1#32
  let v32 : BitVec 32 := Scalar.andi v31 c1_i32_12
  let v102 : BitVec 32 := Scalar.addi v101 v32
  let c1_i32_54 : BitVec 32 := 1#32
  let v104 : BitVec 32 := Scalar.shrsi v102 c1_i32_54
  let v105 : BitVec 32 := Scalar.xori v102 v104
  let v106 : BitVec 32 := Scalar.addi v103 v105
  let c1_i32_191 : BitVec 32 := 1#32
  let v251 : BitVec 32 := Scalar.muli v106 c1_i32_191
  let v252 : BitVec 32 := Scalar.addi c0_i32_192 v251
  v252.toNat
def k0_dev19 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_34 : BitVec 32 := 4#32
  let v69 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_33 : BitVec 32 := 2#32
  let v67 : BitVec 32 := Scalar.muli v33 c2_i32_33
  let c1_i32_12 : BitVec 32 := 1#32
  let v32 : BitVec 32 := Scalar.andi v31 c1_i32_12
  let v68 : BitVec 32 := Scalar.addi v67 v32
  let c1_i32_35 : BitVec 32 := 1#32
  let v70 : BitVec 32 := Scalar.shrsi v68 c1_i32_35
  let v71 : BitVec 32 := Scalar.xori v68 v70
  let v72 : BitVec 32 := Scalar.addi v69 v71
  let c1_i32_266 : BitVec 32 := 1#32
  let v315 : BitVec 32 := Scalar.muli v72 c1_i32_266
  let v316 : BitVec 32 := Scalar.addi c0_i32_267 v315
  v316.toNat
def k0_dev20 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_36 : BitVec 32 := 2#32
  let v73 : BitVec 32 := Scalar.addi v19 c2_i32_36
  let c4_i32_37 : BitVec 32 := 4#32
  let c0_i32_38 : BitVec 32 := 0#32
  let v74 : BitVec 1 := Scalar.cmpi .eq c4_i32_37 c0_i32_38
  let c1_i32_39 : BitVec 32 := 1#32
  let v75 : BitVec 32 := Scalar.select v74 c1_i32_39 c4_i32_37
  let v76 : BitVec 32 := Scalar.remsi v73 v75
  let c0_i32_41 : BitVec 32 := 0#32
  let v78 : BitVec 1 := Scalar.cmpi .slt v76 c0_i32_41
  let c0_i32_42 : BitVec 32 := 0#32
  let v79 : BitVec 1 := Scalar.cmpi .slt v75 c0_i32_42
  let v80 : BitVec 1 := Scalar.xori v78 v79
  let c0_i32_40 : BitVec 32 := 0#32
  let v77 : BitVec 1 := Scalar.cmpi .ne v76 c0_i32_40
  let v81 : BitVec 1 := Scalar.andi v80 v77
  let v82 : BitVec 32 := Scalar.addi v76 v75
  let v83 : BitVec 32 := Scalar.select v81 v82 v76
  let c4_i32_44 : BitVec 32 := 4#32
  let v86 : BitVec 32 := Scalar.muli v83 c4_i32_44
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_43 : BitVec 32 := 2#32
  let v84 : BitVec 32 := Scalar.muli v33 c2_i32_43
  let c1_i32_12 : BitVec 32 := 1#32
  let v32 : BitVec 32 := Scalar.andi v31 c1_i32_12
  let v85 : BitVec 32 := Scalar.addi v84 v32
  let c1_i32_45 : BitVec 32 := 1#32
  let v87 : BitVec 32 := Scalar.shrsi v85 c1_i32_45
  let v88 : BitVec 32 := Scalar.xori v85 v87
  let v89 : BitVec 32 := Scalar.addi v86 v88
  let c1_i32_275 : BitVec 32 := 1#32
  let v325 : BitVec 32 := Scalar.muli v89 c1_i32_275
  let v326 : BitVec 32 := Scalar.addi c0_i32_276 v325
  v326.toNat
def k0_dev21 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v90 : BitVec 32 := Scalar.addi v19 c3_i32
  let c4_i32_46 : BitVec 32 := 4#32
  let c0_i32_47 : BitVec 32 := 0#32
  let v91 : BitVec 1 := Scalar.cmpi .eq c4_i32_46 c0_i32_47
  let c1_i32_48 : BitVec 32 := 1#32
  let v92 : BitVec 32 := Scalar.select v91 c1_i32_48 c4_i32_46
  let v93 : BitVec 32 := Scalar.remsi v90 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c4_i32_53 : BitVec 32 := 4#32
  let v103 : BitVec 32 := Scalar.muli v100 c4_i32_53
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_52 : BitVec 32 := 2#32
  let v101 : BitVec 32 := Scalar.muli v33 c2_i32_52
  let c1_i32_12 : BitVec 32 := 1#32
  let v32 : BitVec 32 := Scalar.andi v31 c1_i32_12
  let v102 : BitVec 32 := Scalar.addi v101 v32
  let c1_i32_54 : BitVec 32 := 1#32
  let v104 : BitVec 32 := Scalar.shrsi v102 c1_i32_54
  let v105 : BitVec 32 := Scalar.xori v102 v104
  let v106 : BitVec 32 := Scalar.addi v103 v105
  let c1_i32_285 : BitVec 32 := 1#32
  let v335 : BitVec 32 := Scalar.muli v106 c1_i32_285
  let v336 : BitVec 32 := Scalar.addi c0_i32_286 v335
  v336.toNat
def k0_dev22 (d0 : Dev nD) : Nat :=
  let c0_i32_362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v37 : BitVec 32 := Scalar.muli v19 c4_i32_15
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32 : BitVec 32 := 2#32
  let v35 : BitVec 32 := Scalar.muli v33 c2_i32
  let c1_i32_14 : BitVec 32 := 1#32
  let c1_i32_12 : BitVec 32 := 1#32
  let v32 : BitVec 32 := Scalar.andi v31 c1_i32_12
  let v34 : BitVec 32 := Scalar.subi c1_i32_14 v32
  let v36 : BitVec 32 := Scalar.addi v35 v34
  let c1_i32_16 : BitVec 32 := 1#32
  let v38 : BitVec 32 := Scalar.shrsi v36 c1_i32_16
  let v39 : BitVec 32 := Scalar.xori v36 v38
  let v40 : BitVec 32 := Scalar.addi v37 v39
  let c1_i32_361 : BitVec 32 := 1#32
  let v399 : BitVec 32 := Scalar.muli v40 c1_i32_361
  let v400 : BitVec 32 := Scalar.addi c0_i32_362 v399
  v400.toNat
def k0_dev23 (d0 : Dev nD) : Nat :=
  let c0_i32_372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v44 : BitVec 32 := Scalar.muli v19 c4_i32_19
  let c1_i32_17 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v41 : BitVec 32 := Scalar.subi c1_i32_17 v33
  let c2_i32_18 : BitVec 32 := 2#32
  let v42 : BitVec 32 := Scalar.muli v41 c2_i32_18
  let c1_i32_12 : BitVec 32 := 1#32
  let v32 : BitVec 32 := Scalar.andi v31 c1_i32_12
  let v43 : BitVec 32 := Scalar.addi v42 v32
  let c1_i32_20 : BitVec 32 := 1#32
  let v45 : BitVec 32 := Scalar.shrsi v43 c1_i32_20
  let v46 : BitVec 32 := Scalar.xori v43 v45
  let v47 : BitVec 32 := Scalar.addi v44 v46
  let c1_i32_371 : BitVec 32 := 1#32
  let v409 : BitVec 32 := Scalar.muli v47 c1_i32_371
  let v410 : BitVec 32 := Scalar.addi c0_i32_372 v409
  v410.toNat
def k0_dev24 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v52 : BitVec 32 := Scalar.muli v19 c4_i32_24
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v49 : BitVec 32 := Scalar.subi c1_i32_22 v33
  let c2_i32_23 : BitVec 32 := 2#32
  let v50 : BitVec 32 := Scalar.muli v49 c2_i32_23
  let c1_i32_21 : BitVec 32 := 1#32
  let c1_i32_12 : BitVec 32 := 1#32
  let v32 : BitVec 32 := Scalar.andi v31 c1_i32_12
  let v48 : BitVec 32 := Scalar.subi c1_i32_21 v32
  let v51 : BitVec 32 := Scalar.addi v50 v48
  let c1_i32_25 : BitVec 32 := 1#32
  let v53 : BitVec 32 := Scalar.shrsi v51 c1_i32_25
  let v54 : BitVec 32 := Scalar.xori v51 v53
  let v55 : BitVec 32 := Scalar.addi v52 v54
  let c1_i32_381 : BitVec 32 := 1#32
  let v419 : BitVec 32 := Scalar.muli v55 c1_i32_381
  let v420 : BitVec 32 := Scalar.addi c0_i32_382 v419
  v420.toNat
def k0_dev25 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_34 : BitVec 32 := 4#32
  let v69 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_33 : BitVec 32 := 2#32
  let v67 : BitVec 32 := Scalar.muli v33 c2_i32_33
  let c1_i32_12 : BitVec 32 := 1#32
  let v32 : BitVec 32 := Scalar.andi v31 c1_i32_12
  let v68 : BitVec 32 := Scalar.addi v67 v32
  let c1_i32_35 : BitVec 32 := 1#32
  let v70 : BitVec 32 := Scalar.shrsi v68 c1_i32_35
  let v71 : BitVec 32 := Scalar.xori v68 v70
  let v72 : BitVec 32 := Scalar.addi v69 v71
  let c1_i32_456 : BitVec 32 := 1#32
  let v483 : BitVec 32 := Scalar.muli v72 c1_i32_456
  let v484 : BitVec 32 := Scalar.addi c0_i32_457 v483
  v484.toNat
def k0_dev26 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_36 : BitVec 32 := 2#32
  let v73 : BitVec 32 := Scalar.addi v19 c2_i32_36
  let c4_i32_37 : BitVec 32 := 4#32
  let c0_i32_38 : BitVec 32 := 0#32
  let v74 : BitVec 1 := Scalar.cmpi .eq c4_i32_37 c0_i32_38
  let c1_i32_39 : BitVec 32 := 1#32
  let v75 : BitVec 32 := Scalar.select v74 c1_i32_39 c4_i32_37
  let v76 : BitVec 32 := Scalar.remsi v73 v75
  let c0_i32_41 : BitVec 32 := 0#32
  let v78 : BitVec 1 := Scalar.cmpi .slt v76 c0_i32_41
  let c0_i32_42 : BitVec 32 := 0#32
  let v79 : BitVec 1 := Scalar.cmpi .slt v75 c0_i32_42
  let v80 : BitVec 1 := Scalar.xori v78 v79
  let c0_i32_40 : BitVec 32 := 0#32
  let v77 : BitVec 1 := Scalar.cmpi .ne v76 c0_i32_40
  let v81 : BitVec 1 := Scalar.andi v80 v77
  let v82 : BitVec 32 := Scalar.addi v76 v75
  let v83 : BitVec 32 := Scalar.select v81 v82 v76
  let c4_i32_44 : BitVec 32 := 4#32
  let v86 : BitVec 32 := Scalar.muli v83 c4_i32_44
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_43 : BitVec 32 := 2#32
  let v84 : BitVec 32 := Scalar.muli v33 c2_i32_43
  let c1_i32_12 : BitVec 32 := 1#32
  let v32 : BitVec 32 := Scalar.andi v31 c1_i32_12
  let v85 : BitVec 32 := Scalar.addi v84 v32
  let c1_i32_45 : BitVec 32 := 1#32
  let v87 : BitVec 32 := Scalar.shrsi v85 c1_i32_45
  let v88 : BitVec 32 := Scalar.xori v85 v87
  let v89 : BitVec 32 := Scalar.addi v86 v88
  let c1_i32_465 : BitVec 32 := 1#32
  let v493 : BitVec 32 := Scalar.muli v89 c1_i32_465
  let v494 : BitVec 32 := Scalar.addi c0_i32_466 v493
  v494.toNat
def k0_dev27 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v90 : BitVec 32 := Scalar.addi v19 c3_i32
  let c4_i32_46 : BitVec 32 := 4#32
  let c0_i32_47 : BitVec 32 := 0#32
  let v91 : BitVec 1 := Scalar.cmpi .eq c4_i32_46 c0_i32_47
  let c1_i32_48 : BitVec 32 := 1#32
  let v92 : BitVec 32 := Scalar.select v91 c1_i32_48 c4_i32_46
  let v93 : BitVec 32 := Scalar.remsi v90 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c4_i32_53 : BitVec 32 := 4#32
  let v103 : BitVec 32 := Scalar.muli v100 c4_i32_53
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_52 : BitVec 32 := 2#32
  let v101 : BitVec 32 := Scalar.muli v33 c2_i32_52
  let c1_i32_12 : BitVec 32 := 1#32
  let v32 : BitVec 32 := Scalar.andi v31 c1_i32_12
  let v102 : BitVec 32 := Scalar.addi v101 v32
  let c1_i32_54 : BitVec 32 := 1#32
  let v104 : BitVec 32 := Scalar.shrsi v102 c1_i32_54
  let v105 : BitVec 32 := Scalar.xori v102 v104
  let v106 : BitVec 32 := Scalar.addi v103 v105
  let c1_i32_475 : BitVec 32 := 1#32
  let v503 : BitVec 32 := Scalar.muli v106 c1_i32_475
  let v504 : BitVec 32 := Scalar.addi c0_i32_476 v503
  v504.toNat
def k0_dev28 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v37 : BitVec 32 := Scalar.muli v19 c4_i32_15
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32 : BitVec 32 := 2#32
  let v35 : BitVec 32 := Scalar.muli v33 c2_i32
  let c1_i32_14 : BitVec 32 := 1#32
  let c1_i32_12 : BitVec 32 := 1#32
  let v32 : BitVec 32 := Scalar.andi v31 c1_i32_12
  let v34 : BitVec 32 := Scalar.subi c1_i32_14 v32
  let v36 : BitVec 32 := Scalar.addi v35 v34
  let c1_i32_16 : BitVec 32 := 1#32
  let v38 : BitVec 32 := Scalar.shrsi v36 c1_i32_16
  let v39 : BitVec 32 := Scalar.xori v36 v38
  let v40 : BitVec 32 := Scalar.addi v37 v39
  let c1_i32_549 : BitVec 32 := 1#32
  let v567 : BitVec 32 := Scalar.muli v40 c1_i32_549
  let v568 : BitVec 32 := Scalar.addi c0_i32_550 v567
  v568.toNat
def k0_dev29 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v44 : BitVec 32 := Scalar.muli v19 c4_i32_19
  let c1_i32_17 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v41 : BitVec 32 := Scalar.subi c1_i32_17 v33
  let c2_i32_18 : BitVec 32 := 2#32
  let v42 : BitVec 32 := Scalar.muli v41 c2_i32_18
  let c1_i32_12 : BitVec 32 := 1#32
  let v32 : BitVec 32 := Scalar.andi v31 c1_i32_12
  let v43 : BitVec 32 := Scalar.addi v42 v32
  let c1_i32_20 : BitVec 32 := 1#32
  let v45 : BitVec 32 := Scalar.shrsi v43 c1_i32_20
  let v46 : BitVec 32 := Scalar.xori v43 v45
  let v47 : BitVec 32 := Scalar.addi v44 v46
  let c1_i32_558 : BitVec 32 := 1#32
  let v577 : BitVec 32 := Scalar.muli v47 c1_i32_558
  let v578 : BitVec 32 := Scalar.addi c0_i32_559 v577
  v578.toNat
def k0_dev30 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v52 : BitVec 32 := Scalar.muli v19 c4_i32_24
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v49 : BitVec 32 := Scalar.subi c1_i32_22 v33
  let c2_i32_23 : BitVec 32 := 2#32
  let v50 : BitVec 32 := Scalar.muli v49 c2_i32_23
  let c1_i32_21 : BitVec 32 := 1#32
  let c1_i32_12 : BitVec 32 := 1#32
  let v32 : BitVec 32 := Scalar.andi v31 c1_i32_12
  let v48 : BitVec 32 := Scalar.subi c1_i32_21 v32
  let v51 : BitVec 32 := Scalar.addi v50 v48
  let c1_i32_25 : BitVec 32 := 1#32
  let v53 : BitVec 32 := Scalar.shrsi v51 c1_i32_25
  let v54 : BitVec 32 := Scalar.xori v51 v53
  let v55 : BitVec 32 := Scalar.addi v52 v54
  let c1_i32_567 : BitVec 32 := 1#32
  let v587 : BitVec 32 := Scalar.muli v55 c1_i32_567
  let v588 : BitVec 32 := Scalar.addi c0_i32_568 v587
  v588.toNat
def k0_dev31 (d0 : Dev nD) : Nat :=
  let c0_i32_650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v37 : BitVec 32 := Scalar.muli v19 c4_i32_15
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32 : BitVec 32 := 2#32
  let v35 : BitVec 32 := Scalar.muli v33 c2_i32
  let c1_i32_14 : BitVec 32 := 1#32
  let c1_i32_12 : BitVec 32 := 1#32
  let v32 : BitVec 32 := Scalar.andi v31 c1_i32_12
  let v34 : BitVec 32 := Scalar.subi c1_i32_14 v32
  let v36 : BitVec 32 := Scalar.addi v35 v34
  let c1_i32_16 : BitVec 32 := 1#32
  let v38 : BitVec 32 := Scalar.shrsi v36 c1_i32_16
  let v39 : BitVec 32 := Scalar.xori v36 v38
  let v40 : BitVec 32 := Scalar.addi v37 v39
  let c1_i32_649 : BitVec 32 := 1#32
  let v659 : BitVec 32 := Scalar.muli v40 c1_i32_649
  let v660 : BitVec 32 := Scalar.addi c0_i32_650 v659
  v660.toNat
def k0_dev32 (d0 : Dev nD) : Nat :=
  let c0_i32_659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v44 : BitVec 32 := Scalar.muli v19 c4_i32_19
  let c1_i32_17 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v41 : BitVec 32 := Scalar.subi c1_i32_17 v33
  let c2_i32_18 : BitVec 32 := 2#32
  let v42 : BitVec 32 := Scalar.muli v41 c2_i32_18
  let c1_i32_12 : BitVec 32 := 1#32
  let v32 : BitVec 32 := Scalar.andi v31 c1_i32_12
  let v43 : BitVec 32 := Scalar.addi v42 v32
  let c1_i32_20 : BitVec 32 := 1#32
  let v45 : BitVec 32 := Scalar.shrsi v43 c1_i32_20
  let v46 : BitVec 32 := Scalar.xori v43 v45
  let v47 : BitVec 32 := Scalar.addi v44 v46
  let c1_i32_658 : BitVec 32 := 1#32
  let v669 : BitVec 32 := Scalar.muli v47 c1_i32_658
  let v670 : BitVec 32 := Scalar.addi c0_i32_659 v669
  v670.toNat
def k0_dev33 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v52 : BitVec 32 := Scalar.muli v19 c4_i32_24
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v49 : BitVec 32 := Scalar.subi c1_i32_22 v33
  let c2_i32_23 : BitVec 32 := 2#32
  let v50 : BitVec 32 := Scalar.muli v49 c2_i32_23
  let c1_i32_21 : BitVec 32 := 1#32
  let c1_i32_12 : BitVec 32 := 1#32
  let v32 : BitVec 32 := Scalar.andi v31 c1_i32_12
  let v48 : BitVec 32 := Scalar.subi c1_i32_21 v32
  let v51 : BitVec 32 := Scalar.addi v50 v48
  let c1_i32_25 : BitVec 32 := 1#32
  let v53 : BitVec 32 := Scalar.shrsi v51 c1_i32_25
  let v54 : BitVec 32 := Scalar.xori v51 v53
  let v55 : BitVec 32 := Scalar.addi v52 v54
  let c1_i32_667 : BitVec 32 := 1#32
  let v679 : BitVec 32 := Scalar.muli v55 c1_i32_667
  let v680 : BitVec 32 := Scalar.addi c0_i32_668 v679
  v680.toNat
def k0_dev34 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_34 : BitVec 32 := 4#32
  let v69 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_33 : BitVec 32 := 2#32
  let v67 : BitVec 32 := Scalar.muli v33 c2_i32_33
  let c1_i32_12 : BitVec 32 := 1#32
  let v32 : BitVec 32 := Scalar.andi v31 c1_i32_12
  let v68 : BitVec 32 := Scalar.addi v67 v32
  let c1_i32_35 : BitVec 32 := 1#32
  let v70 : BitVec 32 := Scalar.shrsi v68 c1_i32_35
  let v71 : BitVec 32 := Scalar.xori v68 v70
  let v72 : BitVec 32 := Scalar.addi v69 v71
  let c1_i32_751 : BitVec 32 := 1#32
  let v751 : BitVec 32 := Scalar.muli v72 c1_i32_751
  let v752 : BitVec 32 := Scalar.addi c0_i32_752 v751
  v752.toNat
def k0_dev35 (d0 : Dev nD) : Nat :=
  let c0_i32_761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_36 : BitVec 32 := 2#32
  let v73 : BitVec 32 := Scalar.addi v19 c2_i32_36
  let c4_i32_37 : BitVec 32 := 4#32
  let c0_i32_38 : BitVec 32 := 0#32
  let v74 : BitVec 1 := Scalar.cmpi .eq c4_i32_37 c0_i32_38
  let c1_i32_39 : BitVec 32 := 1#32
  let v75 : BitVec 32 := Scalar.select v74 c1_i32_39 c4_i32_37
  let v76 : BitVec 32 := Scalar.remsi v73 v75
  let c0_i32_41 : BitVec 32 := 0#32
  let v78 : BitVec 1 := Scalar.cmpi .slt v76 c0_i32_41
  let c0_i32_42 : BitVec 32 := 0#32
  let v79 : BitVec 1 := Scalar.cmpi .slt v75 c0_i32_42
  let v80 : BitVec 1 := Scalar.xori v78 v79
  let c0_i32_40 : BitVec 32 := 0#32
  let v77 : BitVec 1 := Scalar.cmpi .ne v76 c0_i32_40
  let v81 : BitVec 1 := Scalar.andi v80 v77
  let v82 : BitVec 32 := Scalar.addi v76 v75
  let v83 : BitVec 32 := Scalar.select v81 v82 v76
  let c4_i32_44 : BitVec 32 := 4#32
  let v86 : BitVec 32 := Scalar.muli v83 c4_i32_44
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_43 : BitVec 32 := 2#32
  let v84 : BitVec 32 := Scalar.muli v33 c2_i32_43
  let c1_i32_12 : BitVec 32 := 1#32
  let v32 : BitVec 32 := Scalar.andi v31 c1_i32_12
  let v85 : BitVec 32 := Scalar.addi v84 v32
  let c1_i32_45 : BitVec 32 := 1#32
  let v87 : BitVec 32 := Scalar.shrsi v85 c1_i32_45
  let v88 : BitVec 32 := Scalar.xori v85 v87
  let v89 : BitVec 32 := Scalar.addi v86 v88
  let c1_i32_760 : BitVec 32 := 1#32
  let v761 : BitVec 32 := Scalar.muli v89 c1_i32_760
  let v762 : BitVec 32 := Scalar.addi c0_i32_761 v761
  v762.toNat
def k0_dev36 (d0 : Dev nD) : Nat :=
  let c0_i32_771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v90 : BitVec 32 := Scalar.addi v19 c3_i32
  let c4_i32_46 : BitVec 32 := 4#32
  let c0_i32_47 : BitVec 32 := 0#32
  let v91 : BitVec 1 := Scalar.cmpi .eq c4_i32_46 c0_i32_47
  let c1_i32_48 : BitVec 32 := 1#32
  let v92 : BitVec 32 := Scalar.select v91 c1_i32_48 c4_i32_46
  let v93 : BitVec 32 := Scalar.remsi v90 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c4_i32_53 : BitVec 32 := 4#32
  let v103 : BitVec 32 := Scalar.muli v100 c4_i32_53
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_52 : BitVec 32 := 2#32
  let v101 : BitVec 32 := Scalar.muli v33 c2_i32_52
  let c1_i32_12 : BitVec 32 := 1#32
  let v32 : BitVec 32 := Scalar.andi v31 c1_i32_12
  let v102 : BitVec 32 := Scalar.addi v101 v32
  let c1_i32_54 : BitVec 32 := 1#32
  let v104 : BitVec 32 := Scalar.shrsi v102 c1_i32_54
  let v105 : BitVec 32 := Scalar.xori v102 v104
  let v106 : BitVec 32 := Scalar.addi v103 v105
  let c1_i32_770 : BitVec 32 := 1#32
  let v771 : BitVec 32 := Scalar.muli v106 c1_i32_770
  let v772 : BitVec 32 := Scalar.addi c0_i32_771 v771
  v772.toNat
def k0_dev37 (d0 : Dev nD) : Nat :=
  let c0_i32_852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v37 : BitVec 32 := Scalar.muli v19 c4_i32_15
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32 : BitVec 32 := 2#32
  let v35 : BitVec 32 := Scalar.muli v33 c2_i32
  let c1_i32_14 : BitVec 32 := 1#32
  let c1_i32_12 : BitVec 32 := 1#32
  let v32 : BitVec 32 := Scalar.andi v31 c1_i32_12
  let v34 : BitVec 32 := Scalar.subi c1_i32_14 v32
  let v36 : BitVec 32 := Scalar.addi v35 v34
  let c1_i32_16 : BitVec 32 := 1#32
  let v38 : BitVec 32 := Scalar.shrsi v36 c1_i32_16
  let v39 : BitVec 32 := Scalar.xori v36 v38
  let v40 : BitVec 32 := Scalar.addi v37 v39
  let c1_i32_851 : BitVec 32 := 1#32
  let v843 : BitVec 32 := Scalar.muli v40 c1_i32_851
  let v844 : BitVec 32 := Scalar.addi c0_i32_852 v843
  v844.toNat
def k0_dev38 (d0 : Dev nD) : Nat :=
  let c0_i32_861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v44 : BitVec 32 := Scalar.muli v19 c4_i32_19
  let c1_i32_17 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v41 : BitVec 32 := Scalar.subi c1_i32_17 v33
  let c2_i32_18 : BitVec 32 := 2#32
  let v42 : BitVec 32 := Scalar.muli v41 c2_i32_18
  let c1_i32_12 : BitVec 32 := 1#32
  let v32 : BitVec 32 := Scalar.andi v31 c1_i32_12
  let v43 : BitVec 32 := Scalar.addi v42 v32
  let c1_i32_20 : BitVec 32 := 1#32
  let v45 : BitVec 32 := Scalar.shrsi v43 c1_i32_20
  let v46 : BitVec 32 := Scalar.xori v43 v45
  let v47 : BitVec 32 := Scalar.addi v44 v46
  let c1_i32_860 : BitVec 32 := 1#32
  let v853 : BitVec 32 := Scalar.muli v47 c1_i32_860
  let v854 : BitVec 32 := Scalar.addi c0_i32_861 v853
  v854.toNat
def k0_dev39 (d0 : Dev nD) : Nat :=
  let c0_i32_870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v52 : BitVec 32 := Scalar.muli v19 c4_i32_24
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v49 : BitVec 32 := Scalar.subi c1_i32_22 v33
  let c2_i32_23 : BitVec 32 := 2#32
  let v50 : BitVec 32 := Scalar.muli v49 c2_i32_23
  let c1_i32_21 : BitVec 32 := 1#32
  let c1_i32_12 : BitVec 32 := 1#32
  let v32 : BitVec 32 := Scalar.andi v31 c1_i32_12
  let v48 : BitVec 32 := Scalar.subi c1_i32_21 v32
  let v51 : BitVec 32 := Scalar.addi v50 v48
  let c1_i32_25 : BitVec 32 := 1#32
  let v53 : BitVec 32 := Scalar.shrsi v51 c1_i32_25
  let v54 : BitVec 32 := Scalar.xori v51 v53
  let v55 : BitVec 32 := Scalar.addi v52 v54
  let c1_i32_869 : BitVec 32 := 1#32
  let v863 : BitVec 32 := Scalar.muli v55 c1_i32_869
  let v864 : BitVec 32 := Scalar.addi c0_i32_870 v863
  v864.toNat
def k0_dev40 (d0 : Dev nD) : Nat :=
  let c0_i32_952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_34 : BitVec 32 := 4#32
  let v69 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_33 : BitVec 32 := 2#32
  let v67 : BitVec 32 := Scalar.muli v33 c2_i32_33
  let c1_i32_12 : BitVec 32 := 1#32
  let v32 : BitVec 32 := Scalar.andi v31 c1_i32_12
  let v68 : BitVec 32 := Scalar.addi v67 v32
  let c1_i32_35 : BitVec 32 := 1#32
  let v70 : BitVec 32 := Scalar.shrsi v68 c1_i32_35
  let v71 : BitVec 32 := Scalar.xori v68 v70
  let v72 : BitVec 32 := Scalar.addi v69 v71
  let c1_i32_951 : BitVec 32 := 1#32
  let v935 : BitVec 32 := Scalar.muli v72 c1_i32_951
  let v936 : BitVec 32 := Scalar.addi c0_i32_952 v935
  v936.toNat
def k0_dev41 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_36 : BitVec 32 := 2#32
  let v73 : BitVec 32 := Scalar.addi v19 c2_i32_36
  let c4_i32_37 : BitVec 32 := 4#32
  let c0_i32_38 : BitVec 32 := 0#32
  let v74 : BitVec 1 := Scalar.cmpi .eq c4_i32_37 c0_i32_38
  let c1_i32_39 : BitVec 32 := 1#32
  let v75 : BitVec 32 := Scalar.select v74 c1_i32_39 c4_i32_37
  let v76 : BitVec 32 := Scalar.remsi v73 v75
  let c0_i32_41 : BitVec 32 := 0#32
  let v78 : BitVec 1 := Scalar.cmpi .slt v76 c0_i32_41
  let c0_i32_42 : BitVec 32 := 0#32
  let v79 : BitVec 1 := Scalar.cmpi .slt v75 c0_i32_42
  let v80 : BitVec 1 := Scalar.xori v78 v79
  let c0_i32_40 : BitVec 32 := 0#32
  let v77 : BitVec 1 := Scalar.cmpi .ne v76 c0_i32_40
  let v81 : BitVec 1 := Scalar.andi v80 v77
  let v82 : BitVec 32 := Scalar.addi v76 v75
  let v83 : BitVec 32 := Scalar.select v81 v82 v76
  let c4_i32_44 : BitVec 32 := 4#32
  let v86 : BitVec 32 := Scalar.muli v83 c4_i32_44
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_43 : BitVec 32 := 2#32
  let v84 : BitVec 32 := Scalar.muli v33 c2_i32_43
  let c1_i32_12 : BitVec 32 := 1#32
  let v32 : BitVec 32 := Scalar.andi v31 c1_i32_12
  let v85 : BitVec 32 := Scalar.addi v84 v32
  let c1_i32_45 : BitVec 32 := 1#32
  let v87 : BitVec 32 := Scalar.shrsi v85 c1_i32_45
  let v88 : BitVec 32 := Scalar.xori v85 v87
  let v89 : BitVec 32 := Scalar.addi v86 v88
  let c1_i32_960 : BitVec 32 := 1#32
  let v945 : BitVec 32 := Scalar.muli v89 c1_i32_960
  let v946 : BitVec 32 := Scalar.addi c0_i32_961 v945
  v946.toNat
def k0_dev42 (d0 : Dev nD) : Nat :=
  let c0_i32_971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v90 : BitVec 32 := Scalar.addi v19 c3_i32
  let c4_i32_46 : BitVec 32 := 4#32
  let c0_i32_47 : BitVec 32 := 0#32
  let v91 : BitVec 1 := Scalar.cmpi .eq c4_i32_46 c0_i32_47
  let c1_i32_48 : BitVec 32 := 1#32
  let v92 : BitVec 32 := Scalar.select v91 c1_i32_48 c4_i32_46
  let v93 : BitVec 32 := Scalar.remsi v90 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c4_i32_53 : BitVec 32 := 4#32
  let v103 : BitVec 32 := Scalar.muli v100 c4_i32_53
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_52 : BitVec 32 := 2#32
  let v101 : BitVec 32 := Scalar.muli v33 c2_i32_52
  let c1_i32_12 : BitVec 32 := 1#32
  let v32 : BitVec 32 := Scalar.andi v31 c1_i32_12
  let v102 : BitVec 32 := Scalar.addi v101 v32
  let c1_i32_54 : BitVec 32 := 1#32
  let v104 : BitVec 32 := Scalar.shrsi v102 c1_i32_54
  let v105 : BitVec 32 := Scalar.xori v102 v104
  let v106 : BitVec 32 := Scalar.addi v103 v105
  let c1_i32_970 : BitVec 32 := 1#32
  let v955 : BitVec 32 := Scalar.muli v106 c1_i32_970
  let v956 : BitVec 32 := Scalar.addi c0_i32_971 v955
  v956.toNat
def k0_dev43 (d0 : Dev nD) : Nat :=
  let c0_i32_1045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_34 : BitVec 32 := 4#32
  let v69 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_33 : BitVec 32 := 2#32
  let v67 : BitVec 32 := Scalar.muli v33 c2_i32_33
  let c1_i32_12 : BitVec 32 := 1#32
  let v32 : BitVec 32 := Scalar.andi v31 c1_i32_12
  let v68 : BitVec 32 := Scalar.addi v67 v32
  let c1_i32_35 : BitVec 32 := 1#32
  let v70 : BitVec 32 := Scalar.shrsi v68 c1_i32_35
  let v71 : BitVec 32 := Scalar.xori v68 v70
  let v72 : BitVec 32 := Scalar.addi v69 v71
  let c1_i32_1044 : BitVec 32 := 1#32
  let v1019 : BitVec 32 := Scalar.muli v72 c1_i32_1044
  let v1020 : BitVec 32 := Scalar.addi c0_i32_1045 v1019
  v1020.toNat
def k0_dev44 (d0 : Dev nD) : Nat :=
  let c0_i32_1054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_36 : BitVec 32 := 2#32
  let v73 : BitVec 32 := Scalar.addi v19 c2_i32_36
  let c4_i32_37 : BitVec 32 := 4#32
  let c0_i32_38 : BitVec 32 := 0#32
  let v74 : BitVec 1 := Scalar.cmpi .eq c4_i32_37 c0_i32_38
  let c1_i32_39 : BitVec 32 := 1#32
  let v75 : BitVec 32 := Scalar.select v74 c1_i32_39 c4_i32_37
  let v76 : BitVec 32 := Scalar.remsi v73 v75
  let c0_i32_41 : BitVec 32 := 0#32
  let v78 : BitVec 1 := Scalar.cmpi .slt v76 c0_i32_41
  let c0_i32_42 : BitVec 32 := 0#32
  let v79 : BitVec 1 := Scalar.cmpi .slt v75 c0_i32_42
  let v80 : BitVec 1 := Scalar.xori v78 v79
  let c0_i32_40 : BitVec 32 := 0#32
  let v77 : BitVec 1 := Scalar.cmpi .ne v76 c0_i32_40
  let v81 : BitVec 1 := Scalar.andi v80 v77
  let v82 : BitVec 32 := Scalar.addi v76 v75
  let v83 : BitVec 32 := Scalar.select v81 v82 v76
  let c4_i32_44 : BitVec 32 := 4#32
  let v86 : BitVec 32 := Scalar.muli v83 c4_i32_44
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_43 : BitVec 32 := 2#32
  let v84 : BitVec 32 := Scalar.muli v33 c2_i32_43
  let c1_i32_12 : BitVec 32 := 1#32
  let v32 : BitVec 32 := Scalar.andi v31 c1_i32_12
  let v85 : BitVec 32 := Scalar.addi v84 v32
  let c1_i32_45 : BitVec 32 := 1#32
  let v87 : BitVec 32 := Scalar.shrsi v85 c1_i32_45
  let v88 : BitVec 32 := Scalar.xori v85 v87
  let v89 : BitVec 32 := Scalar.addi v86 v88
  let c1_i32_1053 : BitVec 32 := 1#32
  let v1029 : BitVec 32 := Scalar.muli v89 c1_i32_1053
  let v1030 : BitVec 32 := Scalar.addi c0_i32_1054 v1029
  v1030.toNat
def k0_dev45 (d0 : Dev nD) : Nat :=
  let c0_i32_1064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v90 : BitVec 32 := Scalar.addi v19 c3_i32
  let c4_i32_46 : BitVec 32 := 4#32
  let c0_i32_47 : BitVec 32 := 0#32
  let v91 : BitVec 1 := Scalar.cmpi .eq c4_i32_46 c0_i32_47
  let c1_i32_48 : BitVec 32 := 1#32
  let v92 : BitVec 32 := Scalar.select v91 c1_i32_48 c4_i32_46
  let v93 : BitVec 32 := Scalar.remsi v90 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c4_i32_53 : BitVec 32 := 4#32
  let v103 : BitVec 32 := Scalar.muli v100 c4_i32_53
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_52 : BitVec 32 := 2#32
  let v101 : BitVec 32 := Scalar.muli v33 c2_i32_52
  let c1_i32_12 : BitVec 32 := 1#32
  let v32 : BitVec 32 := Scalar.andi v31 c1_i32_12
  let v102 : BitVec 32 := Scalar.addi v101 v32
  let c1_i32_54 : BitVec 32 := 1#32
  let v104 : BitVec 32 := Scalar.shrsi v102 c1_i32_54
  let v105 : BitVec 32 := Scalar.xori v102 v104
  let v106 : BitVec 32 := Scalar.addi v103 v105
  let c1_i32_1063 : BitVec 32 := 1#32
  let v1039 : BitVec 32 := Scalar.muli v106 c1_i32_1063
  let v1040 : BitVec 32 := Scalar.addi c0_i32_1064 v1039
  v1040.toNat
def k0_dev46 (d0 : Dev nD) : Nat :=
  let c0_i32_1139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v37 : BitVec 32 := Scalar.muli v19 c4_i32_15
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32 : BitVec 32 := 2#32
  let v35 : BitVec 32 := Scalar.muli v33 c2_i32
  let c1_i32_14 : BitVec 32 := 1#32
  let c1_i32_12 : BitVec 32 := 1#32
  let v32 : BitVec 32 := Scalar.andi v31 c1_i32_12
  let v34 : BitVec 32 := Scalar.subi c1_i32_14 v32
  let v36 : BitVec 32 := Scalar.addi v35 v34
  let c1_i32_16 : BitVec 32 := 1#32
  let v38 : BitVec 32 := Scalar.shrsi v36 c1_i32_16
  let v39 : BitVec 32 := Scalar.xori v36 v38
  let v40 : BitVec 32 := Scalar.addi v37 v39
  let c1_i32_1138 : BitVec 32 := 1#32
  let v1103 : BitVec 32 := Scalar.muli v40 c1_i32_1138
  let v1104 : BitVec 32 := Scalar.addi c0_i32_1139 v1103
  v1104.toNat
def k0_dev47 (d0 : Dev nD) : Nat :=
  let c0_i32_1148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v44 : BitVec 32 := Scalar.muli v19 c4_i32_19
  let c1_i32_17 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v41 : BitVec 32 := Scalar.subi c1_i32_17 v33
  let c2_i32_18 : BitVec 32 := 2#32
  let v42 : BitVec 32 := Scalar.muli v41 c2_i32_18
  let c1_i32_12 : BitVec 32 := 1#32
  let v32 : BitVec 32 := Scalar.andi v31 c1_i32_12
  let v43 : BitVec 32 := Scalar.addi v42 v32
  let c1_i32_20 : BitVec 32 := 1#32
  let v45 : BitVec 32 := Scalar.shrsi v43 c1_i32_20
  let v46 : BitVec 32 := Scalar.xori v43 v45
  let v47 : BitVec 32 := Scalar.addi v44 v46
  let c1_i32_1147 : BitVec 32 := 1#32
  let v1113 : BitVec 32 := Scalar.muli v47 c1_i32_1147
  let v1114 : BitVec 32 := Scalar.addi c0_i32_1148 v1113
  v1114.toNat
def k0_dev48 (d0 : Dev nD) : Nat :=
  let c0_i32_1157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v52 : BitVec 32 := Scalar.muli v19 c4_i32_24
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v49 : BitVec 32 := Scalar.subi c1_i32_22 v33
  let c2_i32_23 : BitVec 32 := 2#32
  let v50 : BitVec 32 := Scalar.muli v49 c2_i32_23
  let c1_i32_21 : BitVec 32 := 1#32
  let c1_i32_12 : BitVec 32 := 1#32
  let v32 : BitVec 32 := Scalar.andi v31 c1_i32_12
  let v48 : BitVec 32 := Scalar.subi c1_i32_21 v32
  let v51 : BitVec 32 := Scalar.addi v50 v48
  let c1_i32_25 : BitVec 32 := 1#32
  let v53 : BitVec 32 := Scalar.shrsi v51 c1_i32_25
  let v54 : BitVec 32 := Scalar.xori v51 v53
  let v55 : BitVec 32 := Scalar.addi v52 v54
  let c1_i32_1156 : BitVec 32 := 1#32
  let v1123 : BitVec 32 := Scalar.muli v55 c1_i32_1156
  let v1124 : BitVec 32 := Scalar.addi c0_i32_1157 v1123
  v1124.toNat
def k0_dev49 (d0 : Dev nD) : Nat :=
  let c0_i32_1231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_34 : BitVec 32 := 4#32
  let v69 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_33 : BitVec 32 := 2#32
  let v67 : BitVec 32 := Scalar.muli v33 c2_i32_33
  let c1_i32_12 : BitVec 32 := 1#32
  let v32 : BitVec 32 := Scalar.andi v31 c1_i32_12
  let v68 : BitVec 32 := Scalar.addi v67 v32
  let c1_i32_35 : BitVec 32 := 1#32
  let v70 : BitVec 32 := Scalar.shrsi v68 c1_i32_35
  let v71 : BitVec 32 := Scalar.xori v68 v70
  let v72 : BitVec 32 := Scalar.addi v69 v71
  let c1_i32_1230 : BitVec 32 := 1#32
  let v1187 : BitVec 32 := Scalar.muli v72 c1_i32_1230
  let v1188 : BitVec 32 := Scalar.addi c0_i32_1231 v1187
  v1188.toNat
def k0_dev50 (d0 : Dev nD) : Nat :=
  let c0_i32_1240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_36 : BitVec 32 := 2#32
  let v73 : BitVec 32 := Scalar.addi v19 c2_i32_36
  let c4_i32_37 : BitVec 32 := 4#32
  let c0_i32_38 : BitVec 32 := 0#32
  let v74 : BitVec 1 := Scalar.cmpi .eq c4_i32_37 c0_i32_38
  let c1_i32_39 : BitVec 32 := 1#32
  let v75 : BitVec 32 := Scalar.select v74 c1_i32_39 c4_i32_37
  let v76 : BitVec 32 := Scalar.remsi v73 v75
  let c0_i32_41 : BitVec 32 := 0#32
  let v78 : BitVec 1 := Scalar.cmpi .slt v76 c0_i32_41
  let c0_i32_42 : BitVec 32 := 0#32
  let v79 : BitVec 1 := Scalar.cmpi .slt v75 c0_i32_42
  let v80 : BitVec 1 := Scalar.xori v78 v79
  let c0_i32_40 : BitVec 32 := 0#32
  let v77 : BitVec 1 := Scalar.cmpi .ne v76 c0_i32_40
  let v81 : BitVec 1 := Scalar.andi v80 v77
  let v82 : BitVec 32 := Scalar.addi v76 v75
  let v83 : BitVec 32 := Scalar.select v81 v82 v76
  let c4_i32_44 : BitVec 32 := 4#32
  let v86 : BitVec 32 := Scalar.muli v83 c4_i32_44
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_43 : BitVec 32 := 2#32
  let v84 : BitVec 32 := Scalar.muli v33 c2_i32_43
  let c1_i32_12 : BitVec 32 := 1#32
  let v32 : BitVec 32 := Scalar.andi v31 c1_i32_12
  let v85 : BitVec 32 := Scalar.addi v84 v32
  let c1_i32_45 : BitVec 32 := 1#32
  let v87 : BitVec 32 := Scalar.shrsi v85 c1_i32_45
  let v88 : BitVec 32 := Scalar.xori v85 v87
  let v89 : BitVec 32 := Scalar.addi v86 v88
  let c1_i32_1239 : BitVec 32 := 1#32
  let v1197 : BitVec 32 := Scalar.muli v89 c1_i32_1239
  let v1198 : BitVec 32 := Scalar.addi c0_i32_1240 v1197
  v1198.toNat
def k0_dev51 (d0 : Dev nD) : Nat :=
  let c0_i32_1250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v90 : BitVec 32 := Scalar.addi v19 c3_i32
  let c4_i32_46 : BitVec 32 := 4#32
  let c0_i32_47 : BitVec 32 := 0#32
  let v91 : BitVec 1 := Scalar.cmpi .eq c4_i32_46 c0_i32_47
  let c1_i32_48 : BitVec 32 := 1#32
  let v92 : BitVec 32 := Scalar.select v91 c1_i32_48 c4_i32_46
  let v93 : BitVec 32 := Scalar.remsi v90 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c4_i32_53 : BitVec 32 := 4#32
  let v103 : BitVec 32 := Scalar.muli v100 c4_i32_53
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_52 : BitVec 32 := 2#32
  let v101 : BitVec 32 := Scalar.muli v33 c2_i32_52
  let c1_i32_12 : BitVec 32 := 1#32
  let v32 : BitVec 32 := Scalar.andi v31 c1_i32_12
  let v102 : BitVec 32 := Scalar.addi v101 v32
  let c1_i32_54 : BitVec 32 := 1#32
  let v104 : BitVec 32 := Scalar.shrsi v102 c1_i32_54
  let v105 : BitVec 32 := Scalar.xori v102 v104
  let v106 : BitVec 32 := Scalar.addi v103 v105
  let c1_i32_1249 : BitVec 32 := 1#32
  let v1207 : BitVec 32 := Scalar.muli v106 c1_i32_1249
  let v1208 : BitVec 32 := Scalar.addi c0_i32_1250 v1207
  v1208.toNat
def k0_dev52 (d0 : Dev nD) : Nat :=
  let c0_i32_1325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v37 : BitVec 32 := Scalar.muli v19 c4_i32_15
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32 : BitVec 32 := 2#32
  let v35 : BitVec 32 := Scalar.muli v33 c2_i32
  let c1_i32_14 : BitVec 32 := 1#32
  let c1_i32_12 : BitVec 32 := 1#32
  let v32 : BitVec 32 := Scalar.andi v31 c1_i32_12
  let v34 : BitVec 32 := Scalar.subi c1_i32_14 v32
  let v36 : BitVec 32 := Scalar.addi v35 v34
  let c1_i32_16 : BitVec 32 := 1#32
  let v38 : BitVec 32 := Scalar.shrsi v36 c1_i32_16
  let v39 : BitVec 32 := Scalar.xori v36 v38
  let v40 : BitVec 32 := Scalar.addi v37 v39
  let c1_i32_1324 : BitVec 32 := 1#32
  let v1271 : BitVec 32 := Scalar.muli v40 c1_i32_1324
  let v1272 : BitVec 32 := Scalar.addi c0_i32_1325 v1271
  v1272.toNat
def k0_dev53 (d0 : Dev nD) : Nat :=
  let c0_i32_1334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v44 : BitVec 32 := Scalar.muli v19 c4_i32_19
  let c1_i32_17 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v41 : BitVec 32 := Scalar.subi c1_i32_17 v33
  let c2_i32_18 : BitVec 32 := 2#32
  let v42 : BitVec 32 := Scalar.muli v41 c2_i32_18
  let c1_i32_12 : BitVec 32 := 1#32
  let v32 : BitVec 32 := Scalar.andi v31 c1_i32_12
  let v43 : BitVec 32 := Scalar.addi v42 v32
  let c1_i32_20 : BitVec 32 := 1#32
  let v45 : BitVec 32 := Scalar.shrsi v43 c1_i32_20
  let v46 : BitVec 32 := Scalar.xori v43 v45
  let v47 : BitVec 32 := Scalar.addi v44 v46
  let c1_i32_1333 : BitVec 32 := 1#32
  let v1281 : BitVec 32 := Scalar.muli v47 c1_i32_1333
  let v1282 : BitVec 32 := Scalar.addi c0_i32_1334 v1281
  v1282.toNat
def k0_dev54 (d0 : Dev nD) : Nat :=
  let c0_i32_1343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v52 : BitVec 32 := Scalar.muli v19 c4_i32_24
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v49 : BitVec 32 := Scalar.subi c1_i32_22 v33
  let c2_i32_23 : BitVec 32 := 2#32
  let v50 : BitVec 32 := Scalar.muli v49 c2_i32_23
  let c1_i32_21 : BitVec 32 := 1#32
  let c1_i32_12 : BitVec 32 := 1#32
  let v32 : BitVec 32 := Scalar.andi v31 c1_i32_12
  let v48 : BitVec 32 := Scalar.subi c1_i32_21 v32
  let v51 : BitVec 32 := Scalar.addi v50 v48
  let c1_i32_25 : BitVec 32 := 1#32
  let v53 : BitVec 32 := Scalar.shrsi v51 c1_i32_25
  let v54 : BitVec 32 := Scalar.xori v51 v53
  let v55 : BitVec 32 := Scalar.addi v52 v54
  let c1_i32_1342 : BitVec 32 := 1#32
  let v1291 : BitVec 32 := Scalar.muli v55 c1_i32_1342
  let v1292 : BitVec 32 := Scalar.addi c0_i32_1343 v1291
  v1292.toNat
def k0_dev55 (d0 : Dev nD) : Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v37 : BitVec 32 := Scalar.muli v19 c4_i32_15
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32 : BitVec 32 := 2#32
  let v35 : BitVec 32 := Scalar.muli v33 c2_i32
  let c1_i32_14 : BitVec 32 := 1#32
  let c1_i32_12 : BitVec 32 := 1#32
  let v32 : BitVec 32 := Scalar.andi v31 c1_i32_12
  let v34 : BitVec 32 := Scalar.subi c1_i32_14 v32
  let v36 : BitVec 32 := Scalar.addi v35 v34
  let c1_i32_16 : BitVec 32 := 1#32
  let v38 : BitVec 32 := Scalar.shrsi v36 c1_i32_16
  let v39 : BitVec 32 := Scalar.xori v36 v38
  let v40 : BitVec 32 := Scalar.addi v37 v39
  let c1_i32_1424 : BitVec 32 := 1#32
  let v1363 : BitVec 32 := Scalar.muli v40 c1_i32_1424
  let v1364 : BitVec 32 := Scalar.addi c0_i32_1425 v1363
  v1364.toNat
def k0_dev56 (d0 : Dev nD) : Nat :=
  let c0_i32_1434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v44 : BitVec 32 := Scalar.muli v19 c4_i32_19
  let c1_i32_17 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v41 : BitVec 32 := Scalar.subi c1_i32_17 v33
  let c2_i32_18 : BitVec 32 := 2#32
  let v42 : BitVec 32 := Scalar.muli v41 c2_i32_18
  let c1_i32_12 : BitVec 32 := 1#32
  let v32 : BitVec 32 := Scalar.andi v31 c1_i32_12
  let v43 : BitVec 32 := Scalar.addi v42 v32
  let c1_i32_20 : BitVec 32 := 1#32
  let v45 : BitVec 32 := Scalar.shrsi v43 c1_i32_20
  let v46 : BitVec 32 := Scalar.xori v43 v45
  let v47 : BitVec 32 := Scalar.addi v44 v46
  let c1_i32_1433 : BitVec 32 := 1#32
  let v1373 : BitVec 32 := Scalar.muli v47 c1_i32_1433
  let v1374 : BitVec 32 := Scalar.addi c0_i32_1434 v1373
  v1374.toNat
def k0_dev57 (d0 : Dev nD) : Nat :=
  let c0_i32_1443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v52 : BitVec 32 := Scalar.muli v19 c4_i32_24
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v49 : BitVec 32 := Scalar.subi c1_i32_22 v33
  let c2_i32_23 : BitVec 32 := 2#32
  let v50 : BitVec 32 := Scalar.muli v49 c2_i32_23
  let c1_i32_21 : BitVec 32 := 1#32
  let c1_i32_12 : BitVec 32 := 1#32
  let v32 : BitVec 32 := Scalar.andi v31 c1_i32_12
  let v48 : BitVec 32 := Scalar.subi c1_i32_21 v32
  let v51 : BitVec 32 := Scalar.addi v50 v48
  let c1_i32_25 : BitVec 32 := 1#32
  let v53 : BitVec 32 := Scalar.shrsi v51 c1_i32_25
  let v54 : BitVec 32 := Scalar.xori v51 v53
  let v55 : BitVec 32 := Scalar.addi v52 v54
  let c1_i32_1442 : BitVec 32 := 1#32
  let v1383 : BitVec 32 := Scalar.muli v55 c1_i32_1442
  let v1384 : BitVec 32 := Scalar.addi c0_i32_1443 v1383
  v1384.toNat
def k0_dev58 (d0 : Dev nD) : Nat :=
  let c0_i32_1524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_34 : BitVec 32 := 4#32
  let v69 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_33 : BitVec 32 := 2#32
  let v67 : BitVec 32 := Scalar.muli v33 c2_i32_33
  let c1_i32_12 : BitVec 32 := 1#32
  let v32 : BitVec 32 := Scalar.andi v31 c1_i32_12
  let v68 : BitVec 32 := Scalar.addi v67 v32
  let c1_i32_35 : BitVec 32 := 1#32
  let v70 : BitVec 32 := Scalar.shrsi v68 c1_i32_35
  let v71 : BitVec 32 := Scalar.xori v68 v70
  let v72 : BitVec 32 := Scalar.addi v69 v71
  let c1_i32_1523 : BitVec 32 := 1#32
  let v1455 : BitVec 32 := Scalar.muli v72 c1_i32_1523
  let v1456 : BitVec 32 := Scalar.addi c0_i32_1524 v1455
  v1456.toNat
def k0_dev59 (d0 : Dev nD) : Nat :=
  let c0_i32_1533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_36 : BitVec 32 := 2#32
  let v73 : BitVec 32 := Scalar.addi v19 c2_i32_36
  let c4_i32_37 : BitVec 32 := 4#32
  let c0_i32_38 : BitVec 32 := 0#32
  let v74 : BitVec 1 := Scalar.cmpi .eq c4_i32_37 c0_i32_38
  let c1_i32_39 : BitVec 32 := 1#32
  let v75 : BitVec 32 := Scalar.select v74 c1_i32_39 c4_i32_37
  let v76 : BitVec 32 := Scalar.remsi v73 v75
  let c0_i32_41 : BitVec 32 := 0#32
  let v78 : BitVec 1 := Scalar.cmpi .slt v76 c0_i32_41
  let c0_i32_42 : BitVec 32 := 0#32
  let v79 : BitVec 1 := Scalar.cmpi .slt v75 c0_i32_42
  let v80 : BitVec 1 := Scalar.xori v78 v79
  let c0_i32_40 : BitVec 32 := 0#32
  let v77 : BitVec 1 := Scalar.cmpi .ne v76 c0_i32_40
  let v81 : BitVec 1 := Scalar.andi v80 v77
  let v82 : BitVec 32 := Scalar.addi v76 v75
  let v83 : BitVec 32 := Scalar.select v81 v82 v76
  let c4_i32_44 : BitVec 32 := 4#32
  let v86 : BitVec 32 := Scalar.muli v83 c4_i32_44
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_43 : BitVec 32 := 2#32
  let v84 : BitVec 32 := Scalar.muli v33 c2_i32_43
  let c1_i32_12 : BitVec 32 := 1#32
  let v32 : BitVec 32 := Scalar.andi v31 c1_i32_12
  let v85 : BitVec 32 := Scalar.addi v84 v32
  let c1_i32_45 : BitVec 32 := 1#32
  let v87 : BitVec 32 := Scalar.shrsi v85 c1_i32_45
  let v88 : BitVec 32 := Scalar.xori v85 v87
  let v89 : BitVec 32 := Scalar.addi v86 v88
  let c1_i32_1532 : BitVec 32 := 1#32
  let v1465 : BitVec 32 := Scalar.muli v89 c1_i32_1532
  let v1466 : BitVec 32 := Scalar.addi c0_i32_1533 v1465
  v1466.toNat
def k0_dev60 (d0 : Dev nD) : Nat :=
  let c0_i32_1543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v90 : BitVec 32 := Scalar.addi v19 c3_i32
  let c4_i32_46 : BitVec 32 := 4#32
  let c0_i32_47 : BitVec 32 := 0#32
  let v91 : BitVec 1 := Scalar.cmpi .eq c4_i32_46 c0_i32_47
  let c1_i32_48 : BitVec 32 := 1#32
  let v92 : BitVec 32 := Scalar.select v91 c1_i32_48 c4_i32_46
  let v93 : BitVec 32 := Scalar.remsi v90 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c4_i32_53 : BitVec 32 := 4#32
  let v103 : BitVec 32 := Scalar.muli v100 c4_i32_53
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_52 : BitVec 32 := 2#32
  let v101 : BitVec 32 := Scalar.muli v33 c2_i32_52
  let c1_i32_12 : BitVec 32 := 1#32
  let v32 : BitVec 32 := Scalar.andi v31 c1_i32_12
  let v102 : BitVec 32 := Scalar.addi v101 v32
  let c1_i32_54 : BitVec 32 := 1#32
  let v104 : BitVec 32 := Scalar.shrsi v102 c1_i32_54
  let v105 : BitVec 32 := Scalar.xori v102 v104
  let v106 : BitVec 32 := Scalar.addi v103 v105
  let c1_i32_1542 : BitVec 32 := 1#32
  let v1475 : BitVec 32 := Scalar.muli v106 c1_i32_1542
  let v1476 : BitVec 32 := Scalar.addi c0_i32_1543 v1475
  v1476.toNat
def k0_dev61 (d0 : Dev nD) : Nat :=
  let c0_i32_1625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v37 : BitVec 32 := Scalar.muli v19 c4_i32_15
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32 : BitVec 32 := 2#32
  let v35 : BitVec 32 := Scalar.muli v33 c2_i32
  let c1_i32_14 : BitVec 32 := 1#32
  let c1_i32_12 : BitVec 32 := 1#32
  let v32 : BitVec 32 := Scalar.andi v31 c1_i32_12
  let v34 : BitVec 32 := Scalar.subi c1_i32_14 v32
  let v36 : BitVec 32 := Scalar.addi v35 v34
  let c1_i32_16 : BitVec 32 := 1#32
  let v38 : BitVec 32 := Scalar.shrsi v36 c1_i32_16
  let v39 : BitVec 32 := Scalar.xori v36 v38
  let v40 : BitVec 32 := Scalar.addi v37 v39
  let c1_i32_1624 : BitVec 32 := 1#32
  let v1547 : BitVec 32 := Scalar.muli v40 c1_i32_1624
  let v1548 : BitVec 32 := Scalar.addi c0_i32_1625 v1547
  v1548.toNat
def k0_dev62 (d0 : Dev nD) : Nat :=
  let c0_i32_1634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v44 : BitVec 32 := Scalar.muli v19 c4_i32_19
  let c1_i32_17 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v41 : BitVec 32 := Scalar.subi c1_i32_17 v33
  let c2_i32_18 : BitVec 32 := 2#32
  let v42 : BitVec 32 := Scalar.muli v41 c2_i32_18
  let c1_i32_12 : BitVec 32 := 1#32
  let v32 : BitVec 32 := Scalar.andi v31 c1_i32_12
  let v43 : BitVec 32 := Scalar.addi v42 v32
  let c1_i32_20 : BitVec 32 := 1#32
  let v45 : BitVec 32 := Scalar.shrsi v43 c1_i32_20
  let v46 : BitVec 32 := Scalar.xori v43 v45
  let v47 : BitVec 32 := Scalar.addi v44 v46
  let c1_i32_1633 : BitVec 32 := 1#32
  let v1557 : BitVec 32 := Scalar.muli v47 c1_i32_1633
  let v1558 : BitVec 32 := Scalar.addi c0_i32_1634 v1557
  v1558.toNat
def k0_dev63 (d0 : Dev nD) : Nat :=
  let c0_i32_1643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v52 : BitVec 32 := Scalar.muli v19 c4_i32_24
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v49 : BitVec 32 := Scalar.subi c1_i32_22 v33
  let c2_i32_23 : BitVec 32 := 2#32
  let v50 : BitVec 32 := Scalar.muli v49 c2_i32_23
  let c1_i32_21 : BitVec 32 := 1#32
  let c1_i32_12 : BitVec 32 := 1#32
  let v32 : BitVec 32 := Scalar.andi v31 c1_i32_12
  let v48 : BitVec 32 := Scalar.subi c1_i32_21 v32
  let v51 : BitVec 32 := Scalar.addi v50 v48
  let c1_i32_25 : BitVec 32 := 1#32
  let v53 : BitVec 32 := Scalar.shrsi v51 c1_i32_25
  let v54 : BitVec 32 := Scalar.xori v51 v53
  let v55 : BitVec 32 := Scalar.addi v52 v54
  let c1_i32_1642 : BitVec 32 := 1#32
  let v1567 : BitVec 32 := Scalar.muli v55 c1_i32_1642
  let v1568 : BitVec 32 := Scalar.addi c0_i32_1643 v1567
  v1568.toNat
def k0_dev64 (d0 : Dev nD) : Nat :=
  let c0_i32_1724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_34 : BitVec 32 := 4#32
  let v69 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_33 : BitVec 32 := 2#32
  let v67 : BitVec 32 := Scalar.muli v33 c2_i32_33
  let c1_i32_12 : BitVec 32 := 1#32
  let v32 : BitVec 32 := Scalar.andi v31 c1_i32_12
  let v68 : BitVec 32 := Scalar.addi v67 v32
  let c1_i32_35 : BitVec 32 := 1#32
  let v70 : BitVec 32 := Scalar.shrsi v68 c1_i32_35
  let v71 : BitVec 32 := Scalar.xori v68 v70
  let v72 : BitVec 32 := Scalar.addi v69 v71
  let c1_i32_1723 : BitVec 32 := 1#32
  let v1639 : BitVec 32 := Scalar.muli v72 c1_i32_1723
  let v1640 : BitVec 32 := Scalar.addi c0_i32_1724 v1639
  v1640.toNat
def k0_dev65 (d0 : Dev nD) : Nat :=
  let c0_i32_1733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_36 : BitVec 32 := 2#32
  let v73 : BitVec 32 := Scalar.addi v19 c2_i32_36
  let c4_i32_37 : BitVec 32 := 4#32
  let c0_i32_38 : BitVec 32 := 0#32
  let v74 : BitVec 1 := Scalar.cmpi .eq c4_i32_37 c0_i32_38
  let c1_i32_39 : BitVec 32 := 1#32
  let v75 : BitVec 32 := Scalar.select v74 c1_i32_39 c4_i32_37
  let v76 : BitVec 32 := Scalar.remsi v73 v75
  let c0_i32_41 : BitVec 32 := 0#32
  let v78 : BitVec 1 := Scalar.cmpi .slt v76 c0_i32_41
  let c0_i32_42 : BitVec 32 := 0#32
  let v79 : BitVec 1 := Scalar.cmpi .slt v75 c0_i32_42
  let v80 : BitVec 1 := Scalar.xori v78 v79
  let c0_i32_40 : BitVec 32 := 0#32
  let v77 : BitVec 1 := Scalar.cmpi .ne v76 c0_i32_40
  let v81 : BitVec 1 := Scalar.andi v80 v77
  let v82 : BitVec 32 := Scalar.addi v76 v75
  let v83 : BitVec 32 := Scalar.select v81 v82 v76
  let c4_i32_44 : BitVec 32 := 4#32
  let v86 : BitVec 32 := Scalar.muli v83 c4_i32_44
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_43 : BitVec 32 := 2#32
  let v84 : BitVec 32 := Scalar.muli v33 c2_i32_43
  let c1_i32_12 : BitVec 32 := 1#32
  let v32 : BitVec 32 := Scalar.andi v31 c1_i32_12
  let v85 : BitVec 32 := Scalar.addi v84 v32
  let c1_i32_45 : BitVec 32 := 1#32
  let v87 : BitVec 32 := Scalar.shrsi v85 c1_i32_45
  let v88 : BitVec 32 := Scalar.xori v85 v87
  let v89 : BitVec 32 := Scalar.addi v86 v88
  let c1_i32_1732 : BitVec 32 := 1#32
  let v1649 : BitVec 32 := Scalar.muli v89 c1_i32_1732
  let v1650 : BitVec 32 := Scalar.addi c0_i32_1733 v1649
  v1650.toNat
def k0_dev66 (d0 : Dev nD) : Nat :=
  let c0_i32_1743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v90 : BitVec 32 := Scalar.addi v19 c3_i32
  let c4_i32_46 : BitVec 32 := 4#32
  let c0_i32_47 : BitVec 32 := 0#32
  let v91 : BitVec 1 := Scalar.cmpi .eq c4_i32_46 c0_i32_47
  let c1_i32_48 : BitVec 32 := 1#32
  let v92 : BitVec 32 := Scalar.select v91 c1_i32_48 c4_i32_46
  let v93 : BitVec 32 := Scalar.remsi v90 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c4_i32_53 : BitVec 32 := 4#32
  let v103 : BitVec 32 := Scalar.muli v100 c4_i32_53
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_52 : BitVec 32 := 2#32
  let v101 : BitVec 32 := Scalar.muli v33 c2_i32_52
  let c1_i32_12 : BitVec 32 := 1#32
  let v32 : BitVec 32 := Scalar.andi v31 c1_i32_12
  let v102 : BitVec 32 := Scalar.addi v101 v32
  let c1_i32_54 : BitVec 32 := 1#32
  let v104 : BitVec 32 := Scalar.shrsi v102 c1_i32_54
  let v105 : BitVec 32 := Scalar.xori v102 v104
  let v106 : BitVec 32 := Scalar.addi v103 v105
  let c1_i32_1742 : BitVec 32 := 1#32
  let v1659 : BitVec 32 := Scalar.muli v106 c1_i32_1742
  let v1660 : BitVec 32 := Scalar.addi c0_i32_1743 v1659
  v1660.toNat
def k0_dev67 (d0 : Dev nD) : Nat :=
  let c0_i32_1817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_34 : BitVec 32 := 4#32
  let v69 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_33 : BitVec 32 := 2#32
  let v67 : BitVec 32 := Scalar.muli v33 c2_i32_33
  let c1_i32_12 : BitVec 32 := 1#32
  let v32 : BitVec 32 := Scalar.andi v31 c1_i32_12
  let v68 : BitVec 32 := Scalar.addi v67 v32
  let c1_i32_35 : BitVec 32 := 1#32
  let v70 : BitVec 32 := Scalar.shrsi v68 c1_i32_35
  let v71 : BitVec 32 := Scalar.xori v68 v70
  let v72 : BitVec 32 := Scalar.addi v69 v71
  let c1_i32_1816 : BitVec 32 := 1#32
  let v1723 : BitVec 32 := Scalar.muli v72 c1_i32_1816
  let v1724 : BitVec 32 := Scalar.addi c0_i32_1817 v1723
  v1724.toNat
def k0_dev68 (d0 : Dev nD) : Nat :=
  let c0_i32_1826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_36 : BitVec 32 := 2#32
  let v73 : BitVec 32 := Scalar.addi v19 c2_i32_36
  let c4_i32_37 : BitVec 32 := 4#32
  let c0_i32_38 : BitVec 32 := 0#32
  let v74 : BitVec 1 := Scalar.cmpi .eq c4_i32_37 c0_i32_38
  let c1_i32_39 : BitVec 32 := 1#32
  let v75 : BitVec 32 := Scalar.select v74 c1_i32_39 c4_i32_37
  let v76 : BitVec 32 := Scalar.remsi v73 v75
  let c0_i32_41 : BitVec 32 := 0#32
  let v78 : BitVec 1 := Scalar.cmpi .slt v76 c0_i32_41
  let c0_i32_42 : BitVec 32 := 0#32
  let v79 : BitVec 1 := Scalar.cmpi .slt v75 c0_i32_42
  let v80 : BitVec 1 := Scalar.xori v78 v79
  let c0_i32_40 : BitVec 32 := 0#32
  let v77 : BitVec 1 := Scalar.cmpi .ne v76 c0_i32_40
  let v81 : BitVec 1 := Scalar.andi v80 v77
  let v82 : BitVec 32 := Scalar.addi v76 v75
  let v83 : BitVec 32 := Scalar.select v81 v82 v76
  let c4_i32_44 : BitVec 32 := 4#32
  let v86 : BitVec 32 := Scalar.muli v83 c4_i32_44
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_43 : BitVec 32 := 2#32
  let v84 : BitVec 32 := Scalar.muli v33 c2_i32_43
  let c1_i32_12 : BitVec 32 := 1#32
  let v32 : BitVec 32 := Scalar.andi v31 c1_i32_12
  let v85 : BitVec 32 := Scalar.addi v84 v32
  let c1_i32_45 : BitVec 32 := 1#32
  let v87 : BitVec 32 := Scalar.shrsi v85 c1_i32_45
  let v88 : BitVec 32 := Scalar.xori v85 v87
  let v89 : BitVec 32 := Scalar.addi v86 v88
  let c1_i32_1825 : BitVec 32 := 1#32
  let v1733 : BitVec 32 := Scalar.muli v89 c1_i32_1825
  let v1734 : BitVec 32 := Scalar.addi c0_i32_1826 v1733
  v1734.toNat
def k0_dev69 (d0 : Dev nD) : Nat :=
  let c0_i32_1836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v90 : BitVec 32 := Scalar.addi v19 c3_i32
  let c4_i32_46 : BitVec 32 := 4#32
  let c0_i32_47 : BitVec 32 := 0#32
  let v91 : BitVec 1 := Scalar.cmpi .eq c4_i32_46 c0_i32_47
  let c1_i32_48 : BitVec 32 := 1#32
  let v92 : BitVec 32 := Scalar.select v91 c1_i32_48 c4_i32_46
  let v93 : BitVec 32 := Scalar.remsi v90 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c4_i32_53 : BitVec 32 := 4#32
  let v103 : BitVec 32 := Scalar.muli v100 c4_i32_53
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_52 : BitVec 32 := 2#32
  let v101 : BitVec 32 := Scalar.muli v33 c2_i32_52
  let c1_i32_12 : BitVec 32 := 1#32
  let v32 : BitVec 32 := Scalar.andi v31 c1_i32_12
  let v102 : BitVec 32 := Scalar.addi v101 v32
  let c1_i32_54 : BitVec 32 := 1#32
  let v104 : BitVec 32 := Scalar.shrsi v102 c1_i32_54
  let v105 : BitVec 32 := Scalar.xori v102 v104
  let v106 : BitVec 32 := Scalar.addi v103 v105
  let c1_i32_1835 : BitVec 32 := 1#32
  let v1743 : BitVec 32 := Scalar.muli v106 c1_i32_1835
  let v1744 : BitVec 32 := Scalar.addi c0_i32_1836 v1743
  v1744.toNat
def k0_dev70 (d0 : Dev nD) : Nat :=
  let c0_i32_1911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v37 : BitVec 32 := Scalar.muli v19 c4_i32_15
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32 : BitVec 32 := 2#32
  let v35 : BitVec 32 := Scalar.muli v33 c2_i32
  let c1_i32_14 : BitVec 32 := 1#32
  let c1_i32_12 : BitVec 32 := 1#32
  let v32 : BitVec 32 := Scalar.andi v31 c1_i32_12
  let v34 : BitVec 32 := Scalar.subi c1_i32_14 v32
  let v36 : BitVec 32 := Scalar.addi v35 v34
  let c1_i32_16 : BitVec 32 := 1#32
  let v38 : BitVec 32 := Scalar.shrsi v36 c1_i32_16
  let v39 : BitVec 32 := Scalar.xori v36 v38
  let v40 : BitVec 32 := Scalar.addi v37 v39
  let c1_i32_1910 : BitVec 32 := 1#32
  let v1807 : BitVec 32 := Scalar.muli v40 c1_i32_1910
  let v1808 : BitVec 32 := Scalar.addi c0_i32_1911 v1807
  v1808.toNat
def k0_dev71 (d0 : Dev nD) : Nat :=
  let c0_i32_1920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v44 : BitVec 32 := Scalar.muli v19 c4_i32_19
  let c1_i32_17 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v41 : BitVec 32 := Scalar.subi c1_i32_17 v33
  let c2_i32_18 : BitVec 32 := 2#32
  let v42 : BitVec 32 := Scalar.muli v41 c2_i32_18
  let c1_i32_12 : BitVec 32 := 1#32
  let v32 : BitVec 32 := Scalar.andi v31 c1_i32_12
  let v43 : BitVec 32 := Scalar.addi v42 v32
  let c1_i32_20 : BitVec 32 := 1#32
  let v45 : BitVec 32 := Scalar.shrsi v43 c1_i32_20
  let v46 : BitVec 32 := Scalar.xori v43 v45
  let v47 : BitVec 32 := Scalar.addi v44 v46
  let c1_i32_1919 : BitVec 32 := 1#32
  let v1817 : BitVec 32 := Scalar.muli v47 c1_i32_1919
  let v1818 : BitVec 32 := Scalar.addi c0_i32_1920 v1817
  v1818.toNat
def k0_dev72 (d0 : Dev nD) : Nat :=
  let c0_i32_1929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v52 : BitVec 32 := Scalar.muli v19 c4_i32_24
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v49 : BitVec 32 := Scalar.subi c1_i32_22 v33
  let c2_i32_23 : BitVec 32 := 2#32
  let v50 : BitVec 32 := Scalar.muli v49 c2_i32_23
  let c1_i32_21 : BitVec 32 := 1#32
  let c1_i32_12 : BitVec 32 := 1#32
  let v32 : BitVec 32 := Scalar.andi v31 c1_i32_12
  let v48 : BitVec 32 := Scalar.subi c1_i32_21 v32
  let v51 : BitVec 32 := Scalar.addi v50 v48
  let c1_i32_25 : BitVec 32 := 1#32
  let v53 : BitVec 32 := Scalar.shrsi v51 c1_i32_25
  let v54 : BitVec 32 := Scalar.xori v51 v53
  let v55 : BitVec 32 := Scalar.addi v52 v54
  let c1_i32_1928 : BitVec 32 := 1#32
  let v1827 : BitVec 32 := Scalar.muli v55 c1_i32_1928
  let v1828 : BitVec 32 := Scalar.addi c0_i32_1929 v1827
  v1828.toNat
def k0_dev73 (d0 : Dev nD) : Nat :=
  let c0_i32_2003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_26 : BitVec 32 := 1#32
  let v56 : BitVec 32 := Scalar.addi v19 c1_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c4_i32_34 : BitVec 32 := 4#32
  let v69 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_33 : BitVec 32 := 2#32
  let v67 : BitVec 32 := Scalar.muli v33 c2_i32_33
  let c1_i32_12 : BitVec 32 := 1#32
  let v32 : BitVec 32 := Scalar.andi v31 c1_i32_12
  let v68 : BitVec 32 := Scalar.addi v67 v32
  let c1_i32_35 : BitVec 32 := 1#32
  let v70 : BitVec 32 := Scalar.shrsi v68 c1_i32_35
  let v71 : BitVec 32 := Scalar.xori v68 v70
  let v72 : BitVec 32 := Scalar.addi v69 v71
  let c1_i32_2002 : BitVec 32 := 1#32
  let v1891 : BitVec 32 := Scalar.muli v72 c1_i32_2002
  let v1892 : BitVec 32 := Scalar.addi c0_i32_2003 v1891
  v1892.toNat
def k0_dev74 (d0 : Dev nD) : Nat :=
  let c0_i32_2012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_36 : BitVec 32 := 2#32
  let v73 : BitVec 32 := Scalar.addi v19 c2_i32_36
  let c4_i32_37 : BitVec 32 := 4#32
  let c0_i32_38 : BitVec 32 := 0#32
  let v74 : BitVec 1 := Scalar.cmpi .eq c4_i32_37 c0_i32_38
  let c1_i32_39 : BitVec 32 := 1#32
  let v75 : BitVec 32 := Scalar.select v74 c1_i32_39 c4_i32_37
  let v76 : BitVec 32 := Scalar.remsi v73 v75
  let c0_i32_41 : BitVec 32 := 0#32
  let v78 : BitVec 1 := Scalar.cmpi .slt v76 c0_i32_41
  let c0_i32_42 : BitVec 32 := 0#32
  let v79 : BitVec 1 := Scalar.cmpi .slt v75 c0_i32_42
  let v80 : BitVec 1 := Scalar.xori v78 v79
  let c0_i32_40 : BitVec 32 := 0#32
  let v77 : BitVec 1 := Scalar.cmpi .ne v76 c0_i32_40
  let v81 : BitVec 1 := Scalar.andi v80 v77
  let v82 : BitVec 32 := Scalar.addi v76 v75
  let v83 : BitVec 32 := Scalar.select v81 v82 v76
  let c4_i32_44 : BitVec 32 := 4#32
  let v86 : BitVec 32 := Scalar.muli v83 c4_i32_44
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_43 : BitVec 32 := 2#32
  let v84 : BitVec 32 := Scalar.muli v33 c2_i32_43
  let c1_i32_12 : BitVec 32 := 1#32
  let v32 : BitVec 32 := Scalar.andi v31 c1_i32_12
  let v85 : BitVec 32 := Scalar.addi v84 v32
  let c1_i32_45 : BitVec 32 := 1#32
  let v87 : BitVec 32 := Scalar.shrsi v85 c1_i32_45
  let v88 : BitVec 32 := Scalar.xori v85 v87
  let v89 : BitVec 32 := Scalar.addi v86 v88
  let c1_i32_2011 : BitVec 32 := 1#32
  let v1901 : BitVec 32 := Scalar.muli v89 c1_i32_2011
  let v1902 : BitVec 32 := Scalar.addi c0_i32_2012 v1901
  v1902.toNat
def k0_dev75 (d0 : Dev nD) : Nat :=
  let c0_i32_2022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v90 : BitVec 32 := Scalar.addi v19 c3_i32
  let c4_i32_46 : BitVec 32 := 4#32
  let c0_i32_47 : BitVec 32 := 0#32
  let v91 : BitVec 1 := Scalar.cmpi .eq c4_i32_46 c0_i32_47
  let c1_i32_48 : BitVec 32 := 1#32
  let v92 : BitVec 32 := Scalar.select v91 c1_i32_48 c4_i32_46
  let v93 : BitVec 32 := Scalar.remsi v90 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c4_i32_53 : BitVec 32 := 4#32
  let v103 : BitVec 32 := Scalar.muli v100 c4_i32_53
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32_52 : BitVec 32 := 2#32
  let v101 : BitVec 32 := Scalar.muli v33 c2_i32_52
  let c1_i32_12 : BitVec 32 := 1#32
  let v32 : BitVec 32 := Scalar.andi v31 c1_i32_12
  let v102 : BitVec 32 := Scalar.addi v101 v32
  let c1_i32_54 : BitVec 32 := 1#32
  let v104 : BitVec 32 := Scalar.shrsi v102 c1_i32_54
  let v105 : BitVec 32 := Scalar.xori v102 v104
  let v106 : BitVec 32 := Scalar.addi v103 v105
  let c1_i32_2021 : BitVec 32 := 1#32
  let v1911 : BitVec 32 := Scalar.muli v106 c1_i32_2021
  let v1912 : BitVec 32 := Scalar.addi c0_i32_2022 v1911
  v1912.toNat
def k0_dev76 (d0 : Dev nD) : Nat :=
  let c0_i32_2097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v37 : BitVec 32 := Scalar.muli v19 c4_i32_15
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let c2_i32 : BitVec 32 := 2#32
  let v35 : BitVec 32 := Scalar.muli v33 c2_i32
  let c1_i32_14 : BitVec 32 := 1#32
  let c1_i32_12 : BitVec 32 := 1#32
  let v32 : BitVec 32 := Scalar.andi v31 c1_i32_12
  let v34 : BitVec 32 := Scalar.subi c1_i32_14 v32
  let v36 : BitVec 32 := Scalar.addi v35 v34
  let c1_i32_16 : BitVec 32 := 1#32
  let v38 : BitVec 32 := Scalar.shrsi v36 c1_i32_16
  let v39 : BitVec 32 := Scalar.xori v36 v38
  let v40 : BitVec 32 := Scalar.addi v37 v39
  let c1_i32_2096 : BitVec 32 := 1#32
  let v1975 : BitVec 32 := Scalar.muli v40 c1_i32_2096
  let v1976 : BitVec 32 := Scalar.addi c0_i32_2097 v1975
  v1976.toNat
def k0_dev77 (d0 : Dev nD) : Nat :=
  let c0_i32_2106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v44 : BitVec 32 := Scalar.muli v19 c4_i32_19
  let c1_i32_17 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v41 : BitVec 32 := Scalar.subi c1_i32_17 v33
  let c2_i32_18 : BitVec 32 := 2#32
  let v42 : BitVec 32 := Scalar.muli v41 c2_i32_18
  let c1_i32_12 : BitVec 32 := 1#32
  let v32 : BitVec 32 := Scalar.andi v31 c1_i32_12
  let v43 : BitVec 32 := Scalar.addi v42 v32
  let c1_i32_20 : BitVec 32 := 1#32
  let v45 : BitVec 32 := Scalar.shrsi v43 c1_i32_20
  let v46 : BitVec 32 := Scalar.xori v43 v45
  let v47 : BitVec 32 := Scalar.addi v44 v46
  let c1_i32_2105 : BitVec 32 := 1#32
  let v1985 : BitVec 32 := Scalar.muli v47 c1_i32_2105
  let v1986 : BitVec 32 := Scalar.addi c0_i32_2106 v1985
  v1986.toNat
def k0_dev78 (d0 : Dev nD) : Nat :=
  let c0_i32_2115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v52 : BitVec 32 := Scalar.muli v19 c4_i32_24
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_13 : BitVec 32 := 1#32
  let v33 : BitVec 32 := Scalar.shrsi v31 c1_i32_13
  let v49 : BitVec 32 := Scalar.subi c1_i32_22 v33
  let c2_i32_23 : BitVec 32 := 2#32
  let v50 : BitVec 32 := Scalar.muli v49 c2_i32_23
  let c1_i32_21 : BitVec 32 := 1#32
  let c1_i32_12 : BitVec 32 := 1#32
  let v32 : BitVec 32 := Scalar.andi v31 c1_i32_12
  let v48 : BitVec 32 := Scalar.subi c1_i32_21 v32
  let v51 : BitVec 32 := Scalar.addi v50 v48
  let c1_i32_25 : BitVec 32 := 1#32
  let v53 : BitVec 32 := Scalar.shrsi v51 c1_i32_25
  let v54 : BitVec 32 := Scalar.xori v51 v53
  let v55 : BitVec 32 := Scalar.addi v52 v54
  let c1_i32_2114 : BitVec 32 := 1#32
  let v1995 : BitVec 32 := Scalar.muli v55 c1_i32_2114
  let v1996 : BitVec 32 := Scalar.addi c0_i32_2115 v1995
  v1996.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x2048 : Shape := ⟨2, ![128, 2048]⟩
abbrev S2048x256 : Shape := ⟨2, ![2048, 256]⟩
abbrev S256x2048 : Shape := ⟨2, ![256, 2048]⟩
abbrev S128x256 : Shape := ⟨2, ![128, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048x256, .f32⟩
  | .hbm, ⟨2, _⟩ => ⟨S256x2048, .f32⟩
  | .hbm, ⟨3, _⟩ => ⟨S2048x256, .f32⟩
  | .hbm, ⟨4, _⟩ => ⟨S256x2048, .f32⟩
  | .hbm, ⟨5, _⟩ => ⟨S2048x256, .f32⟩
  | .hbm, ⟨6, _⟩ => ⟨S256x2048, .f32⟩
  | .hbm, ⟨7, _⟩ => ⟨S128x256, .f32⟩
  | .hbm, ⟨8, _⟩ => ⟨S_, .f32⟩
  | .hbm, ⟨9, _⟩ => ⟨S128x256, .f32⟩
  | .hbm, ⟨10, _⟩ => ⟨S128x256, .f32⟩
  | .hbm, ⟨11, _⟩ => ⟨S128x2048, .f32⟩
  | .hbm, ⟨12, _⟩ => ⟨S128x256, .f32⟩
  | .hbm, ⟨13, _⟩ => ⟨S_, .f32⟩
  | .hbm, ⟨14, _⟩ => ⟨S128x256, .f32⟩
  | .hbm, ⟨15, _⟩ => ⟨S128x256, .f32⟩
  | .hbm, ⟨16, _⟩ => ⟨S128x2048, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Mesh.lean ====
/-
The sixteen devices and the numbering of the exchanges.

Each device sends 72 blocks. Exchange `n` of a device belongs to the stage whose block lies in send slot `n / 3`,
and is the third number `n % 3` of that stage. A send slot `s` encodes the layer `s / 8`, the group of peers
`(s / 4) % 2` and the chunk of rows `s % 4`. This module says who the peers are, in which receive slot a block lands,
and in which order the stages are worked on.
-/
module

public import proofs.«01_k».proof.KernelIdeal

@[expose] public section

namespace Cert.Mlp

open Cert.KernelIdeal Idealize.ShloMosaic

/-- The class of an exchange: group of peers (0, 1, 2 inside a plane; 3, 4, 5 along the other planes). -/
def cls (n : Fin 72) : Fin 6 := ⟨3 * ((n.val / 12) % 2) + n.val % 3, by omega⟩

/-- The class seen from the other end. -/
def back (p : Fin 6) : Fin 6 := ⟨if p.val < 3 then p.val else 8 - p.val, by split <;> omega⟩

/-- The device that a device of position `c` exchanges blocks of class `p` with. A plane's four devices stand at
    positions 0 to 3 along a ring; the planes are numbered `c / 4`. -/
def peer (p : Fin 6) (c : Dev nD) : Dev nD :=
  ⟨(match p with
    | 0 => 4 * (c.val / 4) + (c.val % 4 + 1 - 2 * (c.val % 2))
    | 1 => 4 * (c.val / 4) + (3 - c.val % 4)
    | 2 => 4 * (c.val / 4) + (c.val + 2) % 4
    | 3 => c.val + 4
    | 4 => c.val + 8
    | 5 => c.val + 12) % 16, Nat.mod_lt _ (by decide)⟩

/-- Who receives from `c` by class `p` sends to `c` by the class seen from the other end. -/
theorem peer_back : ∀ (p : Fin 6) (c : Dev nD), peer (back p) (peer p c) = c := by decide +kernel
theorem back_back : ∀ p : Fin 6, back (back p) = p := by decide
theorem peer_back' (p : Fin 6) (c : Dev nD) : peer p (peer (back p) c) = c := by
  have h := peer_back (back p) c; rwa [back_back] at h
/-- No device is its own peer, and the six peers differ. -/
theorem peer_injective : ∀ c : Dev nD, Function.Injective fun p => peer p c := by decide +kernel

/-- The peers of one class, as a permutation of the devices. -/
def peerEquiv (p : Fin 6) : Dev nD ≃ Dev nD := ⟨peer p, peer (back p), peer_back p, peer_back' p⟩

/-- The receive slot that exchange `n` fills at the other end; equally, the exchange of the other end that fills
    receive slot `n` here. -/
def opp (n : Fin 72) : Fin 72 :=
  ⟨n.val - n.val % 3 + (if (n.val / 12) % 2 = 0 then n.val % 3 else 2 - n.val % 3), by split <;> omega⟩

theorem opp_opp : ∀ n : Fin 72, opp (opp n) = n := by decide +kernel
theorem cls_opp : ∀ n : Fin 72, cls (opp n) = back (cls n) := by decide +kernel
theorem opp_div : ∀ n : Fin 72, (opp n).val / 3 = n.val / 3 := by decide +kernel
def oppEquiv : Fin 72 ≃ Fin 72 := ⟨opp, opp, opp_opp, opp_opp⟩

/-- The place of send slot `s` in the order in which the stages are worked on: even chunks take the group inside the
    plane first, odd chunks the other group first. -/
def stage (s : ℕ) : ℕ := 8 * (s / 8) + 4 * ((s / 4 + s) % 2) + s % 4

/-- The place of exchange `n` in program order. -/
def pos (n : Fin 72) : ℕ := 3 * stage (n.val / 3) + n.val % 3

theorem stage_lt : ∀ s : Fin 24, stage s.val < 24 := by decide
theorem stage_injective : ∀ s t : Fin 24, stage s.val = stage t.val → s = t := by decide +kernel
theorem pos_lt : ∀ n : Fin 72, pos n < 72 := by decide +kernel
theorem pos_injective : ∀ n n' : Fin 72, pos n = pos n' → n = n' := by decide +kernel

/-- The send slot of an exchange. -/
def slotOf (n : Fin 72) : Fin 24 := ⟨n.val / 3, by omega⟩

/-- Every device is a given one, one of its three peers in the plane, or one of the peers of those along the planes:
    the sixteen terms of the sum that the two groups of exchanges make. -/
def sixteen (c : Dev nD) : List (Dev nD) :=
  [c, peer 0 c, peer 1 c, peer 2 c,
   peer 3 c, peer 0 (peer 3 c), peer 1 (peer 3 c), peer 2 (peer 3 c),
   peer 4 c, peer 0 (peer 4 c), peer 1 (peer 4 c), peer 2 (peer 4 c),
   peer 5 c, peer 0 (peer 5 c), peer 1 (peer 5 c), peer 2 (peer 5 c)]

theorem sixteen_perm : ∀ c : Dev nD, (sixteen c).Perm (List.finRange 16) := by decide +kernel

end Cert.Mlp

end
-- ==== Proof.Chain.lean ====
/-
What each device computes, as a function of what every device is given.

A device cuts its rows into four chunks. Each chunk passes through six stages. At a stage the chunk is sent to three
peers, and the blocks received from the same three peers are added to it; after the second stage of a layer the sum
passes through the layer's second product and the next layer's first one. `part t q c` is the block that device `c`
sends at stage `t` of chunk `q`, and `total t q c` is what it holds after the additions of that stage.
-/
module

public import proofs.«01_k».proof.Proof.Mesh
public import proofs.«01_k».proof.Proof.Gen.KernelIdeal.Skeleton

@[expose] public section

noncomputable section

namespace Cert.Mlp

open Cert.KernelIdeal Cert.KernelIdeal.Gen
open Idealize.ShloMosaic
open Idealize.ShloMosaic.TcCoe

variable {F : FTy → Type} [FloatOps F]

/-- What one device is given: its columns of the input and its share of the three layers' weights. -/
structure Ins (F : FTy → Type) where
  x : Vec F S128x128 .f32
  wi0 : Vec F S128x256 .f32
  wo0 : Vec F S256x128 .f32
  wi1 : Vec F S128x256 .f32
  wo1 : Vec F S256x128 .f32
  wi2 : Vec F S128x256 .f32
  wo2 : Vec F S256x128 .f32

/-- The second weight of layer `l`. -/
def Ins.wo {F : FTy → Type} (I : Ins F) : ℕ → Vec F S256x128 .f32
  | 0 => I.wo0
  | 1 => I.wo1
  | _ => I.wo2

/-- The first weight of the layer after layer `l`. -/
def Ins.next {F : FTy → Type} (I : Ins F) : ℕ → Vec F S128x256 .f32
  | 0 => I.wi1
  | _ => I.wi2

/-- The first product of the first layer, chunk `q` of its rows. -/
def firstChunk (I : Ins F) : ℕ → FVec F S32x256 .f32
  | 0 => k0_pay3 I.x I.wi0
  | 1 => k0_pay4 I.x I.wi0
  | 2 => k0_pay5 I.x I.wi0
  | _ => k0_pay6 I.x I.wi0

/-- A block as it lies in a slot, and back. -/
def intoSlot (v : FVec F S32x256 .f32) : FVec F S1x32x256 .f32 := shapeCast S1x32x256 v shapeCasts_S32x256_S1x32x256
def fromSlot (v : Vec F S1x32x256 .f32) : FVec F S32x256 .f32 := shapeCast S32x256 v shapeCasts_S1x32x256_S32x256

/-- The block of device `c` and those of its peers of group `g` added to it one by one. -/
def addGroup (a : Dev nD → FVec F S32x256 .f32) (c : Dev nD) : ℕ → FVec F S32x256 .f32
  | 0 => addf (addf (addf (a c) (fromSlot (intoSlot (a (peer 0 c))))) (fromSlot (intoSlot (a (peer 1 c))))) (fromSlot (intoSlot (a (peer 2 c))))
  | _ => addf (addf (addf (a c) (fromSlot (intoSlot (a (peer 5 c))))) (fromSlot (intoSlot (a (peer 4 c))))) (fromSlot (intoSlot (a (peer 3 c))))

/-- The positive part. -/
def relu (v : FVec F S32x256 .f32) : FVec F S32x256 .f32 := maximumf v (broadcast S32x256 (Scalar.ofBits .f32 0x00000000#32 : F .f32))

/-- The second product of a layer on a chunk. -/
def down (wo : Vec F S256x128 .f32) (v : FVec F S32x256 .f32) : FVec F S32x128 .f32 :=
  matmul dot_S32x256_S256x128_S32x128_1_0_0_1_n_n none v (shapeCast S256x128 wo shapeCasts_S256x128_S256x128) (constant S32x128 .f32 0x00000000#32)

/-- The first product of a layer on a chunk. -/
def across (wi : Vec F S128x256 .f32) (v : FVec F S32x128 .f32) : FVec F S32x256 .f32 :=
  matmul dot_S32x128_S128x256_S32x256_1_0_0_1_n_n none v (shapeCast S128x256 wi shapeCasts_S128x256_S128x256) (constant S32x256 .f32 0x00000000#32)

variable (I : Dev nD → Ins F)

/-- The block that device `c` sends at stage `t` of chunk `q`. -/
def part (q : ℕ) : ℕ → Dev nD → FVec F S32x256 .f32
  | 0 => fun c => firstChunk (I c) q
  | t + 1 => fun c =>
    if t % 2 = 0 then addGroup (part q t) c ((q + t) % 2)
    else across ((I c).next (t / 2)) (down ((I c).wo (t / 2)) (relu (addGroup (part q t) c ((q + t) % 2))))

/-- What device `c` holds after the additions of stage `t` of chunk `q`. -/
def total (q t : ℕ) (c : Dev nD) : FVec F S32x256 .f32 := addGroup (part I q t) c ((q + t) % 2)

/-- Chunk `q` of the result of device `c`. -/
def outChunk (q : ℕ) (c : Dev nD) : FVec F S32x128 .f32 := down (I c).wo2 (relu (total I q 5 c))

/-- What send slot `s` of device `c` holds once it is filled. -/
def sent (c : Dev nD) (s : Fin 24) : Vec F S1x32x256 .f32 :=
  intoSlot (part I (s.val % 4) (2 * (s.val / 8) + (s.val / 4 + s.val) % 2) c)

/-- What receive slot `n` of device `c` holds once the transfer into it has landed. -/
def landed (c : Dev nD) (n : Fin 72) : Vec F S1x32x256 .f32 := sent I (peer (cls n) c) (slotOf n)

end Cert.Mlp

end

end
-- ==== Proof.Slots.lean ====
/-
The slots of the two scratch buffers and the semaphores of the transfers.

The send buffer has 24 slots, the receive buffer 72; a slot is a block of 32 rows of 256 columns. This module names
the slots as the kernel addresses them, and shows that a buffer is its slots and what a transfer from one slot to
another leaves there.
-/
module

public import proofs.«01_k».proof.Proof.Chain
public import proofs.«01_k».proof.Proof.Gen.KernelIdeal.Launch
public import Idealize.ShloMosaic.Lib.Pipeline.Launch
public import Idealize.ShloMosaic.Lib.Pipeline.Kit
public import Idealize.ShloMosaic.Lib.Ring.Trips
public import Idealize.ShloMosaic.Lib.Tactic

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The slots -/

/-- The whole send buffer and the whole receive buffer. -/
abbrev sM : Memref sig .tc .vmem S24x32x256 .f32 := Memref.whole cc0_scratch0
abbrev rM : Memref sig .tc .vmem S72x32x256 .f32 := Memref.whole cc0_scratch1

theorem inbS (n : ℕ) (hn : n < 24) : ∀ a, (![n, 0, 0] : Fin 3 → ℕ) a + S1x32x256.size a ≤ S24x32x256.size a := by
  intro a; fin_cases a
  · show n + 1 ≤ 24; omega
  · show 0 + 32 ≤ 32; omega
  · show 0 + 256 ≤ 256; omega
theorem inbR (n : ℕ) (hn : n < 72) : ∀ a, (![n, 0, 0] : Fin 3 → ℕ) a + S1x32x256.size a ≤ S72x32x256.size a := by
  intro a; fin_cases a
  · show n + 1 ≤ 72; omega
  · show 0 + 32 ≤ 32; omega
  · show 0 + 256 ≤ 256; omega
theorem inbQ (n : ℕ) (hn : n < 72) : ∀ a, (![n] : Fin 1 → ℕ) a + S1.size a ≤ S72.size a := by
  intro a; fin_cases a
  show n + 1 ≤ 72; omega

/-- The place of a slot in its buffer. -/
abbrev sR (s : Fin 24) : Rect S24x32x256 := Rect.unit (s := S24x32x256) ![s.val, 0, 0] S1x32x256.size (inbS s.val s.isLt)
abbrev rR (n : Fin 72) : Rect S72x32x256 := Rect.unit (s := S72x32x256) ![n.val, 0, 0] S1x32x256.size (inbR n.val n.isLt)

/-- A slot as a block of one layer, and as a matrix. -/
abbrev sB (s : Fin 24) : Memref sig .tc .vmem S1x32x256 .f32 := sM.slice (sR s) (fun _ => rfl)
abbrev rB (n : Fin 72) : Memref sig .tc .vmem S1x32x256 .f32 := rM.slice (rR n) (fun _ => rfl)
abbrev sQ (s : Fin 24) : Memref sig .tc .vmem S32x256 .f32 := (sB s).squeeze S32x256 squeezes_S1x32x256_S32x256
abbrev rQ (n : Fin 72) : Memref sig .tc .vmem S32x256 .f32 := (rB n).squeeze S32x256 squeezes_S1x32x256_S32x256

/-- The semaphore of the `n`-th transfer at the sender, and that of receive slot `n`. -/
abbrev sendS (n : Fin 72) : DmaSem sig :=
  ((cc0_scratch2.slice (Rect.unit (s := S72) ![n.val] S1.size (inbQ n.val n.isLt)) : DmaSems sig S1).squeeze S_ squeezes_S1_S_ : DmaSems sig S_).sem
abbrev recvS (n : Fin 72) : DmaSem sig :=
  ((cc0_scratch3.slice (Rect.unit (s := S72) ![n.val] S1.size (inbQ n.val n.isLt)) : DmaSems sig S1).squeeze S_ squeezes_S1_S_ : DmaSems sig S_).sem

theorem sendS_val : ∀ n : Fin 72, (sendS n).val = 8 + n.val := by decide +kernel
theorem recvS_val : ∀ n : Fin 72, (recvS n).val = 80 + n.val := by decide +kernel

/-- The amount a transfer of one block credits. -/
abbrev N : ℕ := (rQ 0).view.dmaCredit
theorem N_pos : 0 < N := View.dmaCredit_pos _ (by decide)

/-! ## Their contents -/

/-- A buffer of nothing but the block `v` in slot `s`. -/
def sBuf (s : Fin 24) (v : Vec F S1x32x256 .f32) : (cc0_scratch0 : Ref sig .tc).ty.Contents (Elt F) :=
  (sB s).view.write (Elt F) (fun _ => (Scalar.ofBits .f32 0x00000000#32 : F .f32)) v Finset.univ
def rBuf (n : Fin 72) (v : Vec F S1x32x256 .f32) : (cc0_scratch1 : Ref sig .tc).ty.Contents (Elt F) :=
  (rB n).view.write (Elt F) (fun _ => (Scalar.ofBits .f32 0x00000000#32 : F .f32)) v Finset.univ

/-- Send slot `s` of device `c`, to the share `q`, holding `v`. -/
def sPts (c : Dev nD) (s : Fin 24) (q : PosShare TreeShare) (v : Vec F S1x32x256 .f32) : sProp 𝕄 :=
  (sB s).view.loc (c : Thread nD τ) ↦[(sB s).view.set]{q} sBuf s v
/-- Receive slot `n` of device `c` holding `v`. -/
def rPts (c : Dev nD) (n : Fin 72) (v : Vec F S1x32x256 .f32) : sProp 𝕄 :=
  (rB n).view.loc (c : Thread nD τ) ↦[(rB n).view.set]{fullShare} rBuf n v
/-- The two with contents of no interest. -/
def sAny (c : Dev nD) (s : Fin 24) : sProp 𝕄 :=
  iprop(∃ f : Buf (Elt F) ((sB s).view.loc (c : Thread nD τ)), (sB s).view.loc (c : Thread nD τ) ↦[(sB s).view.set]{fullShare} f)
def rAny (c : Dev nD) (n : Fin 72) : sProp 𝕄 :=
  iprop(∃ f : Buf (Elt F) ((rB n).view.loc (c : Thread nD τ)), (rB n).view.loc (c : Thread nD τ) ↦[(rB n).view.set]{fullShare} f)

instance sPts_storable (c : Dev nD) (s) (q) (v) : BI.Storable (upEmb : UEmb _ 𝕄) (sPts (F := F) c s q v) := by unfold sPts; infer_instance
instance rPts_storable (c : Dev nD) (n) (v) : BI.Storable (upEmb : UEmb _ 𝕄) (rPts (F := F) c n v) := by unfold rPts; infer_instance
instance rAny_storable (c : Dev nD) (n) : BI.Storable (upEmb : UEmb _ 𝕄) (rAny (F := F) c n) := by unfold rAny; infer_instance

theorem write_on {κ : Kind} {sp : Space} {s : Shape} {e : EltTy} (v : View sig κ sp s e) (f g : v.ty.Contents (Elt F)) (w : s.Idx → Elt F e) :
    ∀ i ∈ v.set, v.write (Elt F) f w Finset.univ i = v.write (Elt F) g w Finset.univ i := fun i hi =>
  View.write_congr (fun _ _ _ => rfl) (fun h => absurd hi h)

/-- A slot just written holds what was written. -/
theorem sPts_of_write (c : Dev nD) (s : Fin 24) (f : (cc0_scratch0 : Ref sig .tc).ty.Contents (Elt F)) (v : Vec F S1x32x256 .f32) :
    ((sB s).view.loc (c : Thread nD τ) ↦[(sB s).view.set]{fullShare} (sB s).view.write (Elt F) f v Finset.univ : sProp 𝕄) = sPts (F := F) c s fullShare v :=
  pointsTo_congr (write_on (F := F) (sB s).view _ _ v)

/-- What a slot holds is read back. -/
theorem sBuf_read (s : Fin 24) (v : Vec F S1x32x256 .f32) : (sB s).view.read (Elt F) (sBuf s v) = v := View.read_write_univ _ _
theorem rBuf_read (n : Fin 72) (v : Vec F S1x32x256 .f32) : (rB n).view.read (Elt F) (rBuf n v) = v := View.read_write_univ _ _

/-- A transfer from send slot `s` leaves in the receive slot what the send slot holds. -/
theorem rPts_of_transfer (c : Dev nD) (s : Fin 24) (n : Fin 72) (f : (cc0_scratch1 : Ref sig .tc).ty.Contents (Elt F)) (v : Vec F S1x32x256 .f32) :
    ((rQ n).view.loc (c : Thread nD τ) ↦[(rQ n).view.set]{fullShare} (rQ n).view.write (Elt F) f ((sQ s).view.read (Elt F) (sBuf s v)) Finset.univ : sProp 𝕄)
      = rPts (F := F) c n v := by
  have h1 : (sQ s).view.read (Elt F) (sBuf s v) = fun x => v (Shape.reshapeEquiv squeezes_S1x32x256_S32x256.numel_eq x) :=
    funext fun x => congrFun (sBuf_read s v) _
  have h2 : (rQ n).view.write (Elt F) f ((sQ s).view.read (Elt F) (sBuf s v)) Finset.univ = (rB n).view.write (Elt F) f v Finset.univ := by
    rw [h1]
    refine (View.write_reshape_univ (rB n).view squeezes_S1x32x256_S32x256.numel_eq f _).trans ?_
    simp
  have h3 : (rQ n).view.set = (rB n).view.set := View.set_reshape (rB n).view squeezes_S1x32x256_S32x256.numel_eq
  unfold rPts
  rw [h2]
  show ((rB n).view.loc (c : Thread nD τ) ↦[(rQ n).view.set]{fullShare} _ : sProp 𝕄) = _
  rw [h3]
  exact pointsTo_congr (write_on (F := F) (rB n).view _ _ v)

/-! ## A buffer is its slots -/

theorem s_set (s : Fin 24) : (sB s).view.set = (sR s).set := View.set_slice_whole _ _
theorem r_set (n : Fin 72) : (rB n).view.set = (rR n).set := View.set_slice_whole _ _

theorem s_disjoint (s t : Fin 24) (h : s ≠ t) : Disjoint (sR s).set (sR t).set :=
  Rect.unit_disjoint (0 : Fin 3) (by
    have : s.val ≠ t.val := fun e => h (Fin.ext e)
    show s.val + 1 ≤ t.val ∨ t.val + 1 ≤ s.val
    omega)
theorem r_disjoint (s t : Fin 72) (h : s ≠ t) : Disjoint (rR s).set (rR t).set :=
  Rect.unit_disjoint (0 : Fin 3) (by
    have : s.val ≠ t.val := fun e => h (Fin.ext e)
    show s.val + 1 ≤ t.val ∨ t.val + 1 ≤ s.val
    omega)
theorem s_cover : Finset.univ.biUnion (fun s : Fin 24 => (sR s).set) = Finset.univ := by
  ext i
  simp only [Finset.mem_biUnion, Finset.mem_univ, true_and, iff_true]
  refine ⟨i 0, Rect.mem_set_unit.2 fun a => ?_⟩
  fin_cases a
  · exact ⟨Nat.le_refl _, Nat.lt_succ_self _⟩
  · exact ⟨Nat.zero_le _, by have := (i 1).isLt; show (i 1).val < 0 + 32; rw [Nat.zero_add]; exact this⟩
  · exact ⟨Nat.zero_le _, by have := (i 2).isLt; show (i 2).val < 0 + 256; rw [Nat.zero_add]; exact this⟩
theorem r_cover : Finset.univ.biUnion (fun s : Fin 72 => (rR s).set) = Finset.univ := by
  ext i
  simp only [Finset.mem_biUnion, Finset.mem_univ, true_and, iff_true]
  refine ⟨i 0, Rect.mem_set_unit.2 fun a => ?_⟩
  fin_cases a
  · exact ⟨Nat.le_refl _, Nat.lt_succ_self _⟩
  · exact ⟨Nat.zero_le _, by have := (i 1).isLt; show (i 1).val < 0 + 32; rw [Nat.zero_add]; exact this⟩
  · exact ⟨Nat.zero_le _, by have := (i 2).isLt; show (i 2).val < 0 + 256; rw [Nat.zero_add]; exact this⟩

/-- The send buffer held whole is its slots, and the slots join to it again. -/
theorem s_split (c : Dev nD) :
    (iprop(∃ f : Buf (Elt F) ((c : Thread nD τ).loc cc0_scratch0), ((c : Thread nD τ).loc cc0_scratch0) ↦{fullShare} f) : sProp 𝕄)
      ⊢ bigSep Finset.univ fun s : Fin 24 => sAny c s := by
  iintro ⟨%f, H⟩
  iapply ((Entails.of_eq (Ring.pointsTo_blocks (ℓ := (c : Thread nD τ).loc cc0_scratch0) (fun s : Fin 24 => (sR s).set) s_disjoint s_cover f)).trans
    (bigSep_mono fun s _ => show ((c : Thread nD τ).loc cc0_scratch0 ↦[(sR s).set]{fullShare} f : sProp 𝕄) ⊢ sAny c s from by
      unfold sAny; rw [s_set]; iintro H; iexists f; iexact H))
  iexact H
theorem s_join (c : Dev nD) :
    (bigSep Finset.univ fun s : Fin 24 => sAny c s)
      ⊢ (iprop(∃ f : Buf (Elt F) ((c : Thread nD τ).loc cc0_scratch0), ((c : Thread nD τ).loc cc0_scratch0) ↦{fullShare} f) : sProp 𝕄) := by
  refine .trans (bigSep_mono fun s _ => ?_) (Ring.pointsTo_blocks_join_exists (ℓ := (c : Thread nD τ).loc cc0_scratch0) (fun s : Fin 24 => (sR s).set) s_disjoint s_cover
    (fun _ => (Scalar.ofBits .f32 0x00000000#32 : F .f32)))
  unfold sAny; rw [s_set]; exact .refl _

/-- The receive buffer held whole is its slots, and the slots join to it again. -/
theorem r_split (c : Dev nD) :
    (iprop(∃ f : Buf (Elt F) ((c : Thread nD τ).loc cc0_scratch1), ((c : Thread nD τ).loc cc0_scratch1) ↦{fullShare} f) : sProp 𝕄)
      ⊢ bigSep Finset.univ fun n : Fin 72 => rAny c n := by
  iintro ⟨%f, H⟩
  iapply ((Entails.of_eq (Ring.pointsTo_blocks (ℓ := (c : Thread nD τ).loc cc0_scratch1) (fun n : Fin 72 => (rR n).set) r_disjoint r_cover f)).trans
    (bigSep_mono fun n _ => show ((c : Thread nD τ).loc cc0_scratch1 ↦[(rR n).set]{fullShare} f : sProp 𝕄) ⊢ rAny c n from by
      unfold rAny; rw [r_set]; iintro H; iexists f; iexact H))
  iexact H
theorem r_join (c : Dev nD) :
    (bigSep Finset.univ fun n : Fin 72 => rAny c n)
      ⊢ (iprop(∃ f : Buf (Elt F) ((c : Thread nD τ).loc cc0_scratch1), ((c : Thread nD τ).loc cc0_scratch1) ↦{fullShare} f) : sProp 𝕄) := by
  refine .trans (bigSep_mono fun n _ => ?_) (Ring.pointsTo_blocks_join_exists (ℓ := (c : Thread nD τ).loc cc0_scratch1) (fun n : Fin 72 => (rR n).set) r_disjoint r_cover
    (fun _ => (Scalar.ofBits .f32 0x00000000#32 : F .f32)))
  unfold rAny; rw [r_set]; exact .refl _

/-- A slot held whole is held in three parts, one for each transfer out of it. -/
theorem sPts_thirds (c : Dev nD) (s : Fin 24) (v : Vec F S1x32x256 .f32) :
    (sPts (F := F) c s fullShare v : sProp 𝕄) ⊣⊢ bigSep Finset.univ fun j : Fin 3 => sPts c s (Ring.shares3 fullShare j) v := by
  rw [bigSep_univ_eq_bigSepL [0, 1, 2] (by decide) (by decide), bigSepL_cons_cons, bigSepL_cons_cons, bigSepL_singleton]
  unfold sPts
  exact Ring.pointsTo_thirds (ℓ := (sB s).view.loc (c : Thread nD τ)) (I := (sB s).view.set) fullShare (sBuf s v)

end Cert.Mlp

end

end
-- ==== Proof.Proto.lean ====
/-
The protocol of the exchanges.

Every device has one barrier semaphore, 72 semaphores for the transfers it sends and 72 for the slots it receives
into. On the barrier of a device each of its six peers pays one unit and thereby hands over those of its own receive
slots that this device will fill. A transfer pays a block's credit twice: at the sender, where it returns the part of
the send slot that was lent to it, and at the receiver, where it hands over the slot with the block in it.
-/
module

public import proofs.«01_k».proof.Proof.Slots

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F)

/-! ## The cells -/

abbrev barS : Sem sig := (SemArray.scalar (sig.barrier 0 rfl) : Sems sig S_).sem

abbrev barCell (c : Dev nD) : GSem nD τ sig := ((c : Thread nD τ), .reg barS)
abbrev sendCell (c : Dev nD) (n : Fin 72) : GSem nD τ sig := ((c : Thread nD τ), .dma (sendS n))
abbrev recvCell (c : Dev nD) (n : Fin 72) : GSem nD τ sig := ((c : Thread nD τ), .dma (recvS n))

/-- The transfer a semaphore of a sender belongs to, and the slot a semaphore of a receiver belongs to. -/
def sendIx (q : DmaSem sig) : Fin 72 := ⟨(q.val - 8) % 72, Nat.mod_lt _ (by decide)⟩
def recvIx (q : DmaSem sig) : Fin 72 := ⟨(q.val - 80) % 72, Nat.mod_lt _ (by decide)⟩

theorem sendIx_sendS (n : Fin 72) : sendIx (sendS n) = n :=
  Fin.ext (by have := n.isLt; show ((sendS n).val - 8) % 72 = n.val; rw [sendS_val]; omega)
theorem recvIx_recvS (n : Fin 72) : recvIx (recvS n) = n :=
  Fin.ext (by have := n.isLt; show ((recvS n).val - 80) % 72 = n.val; rw [recvS_val]; omega)

/-! ## The schedule -/

/-- What the peer of class `p` hands to device `c` over its barrier: the receive slots there that `c` fills. -/
def barPay (c : Dev nD) (p : Fin 6) : sProp 𝕄 := bigSep (Finset.univ.filter fun n : Fin 72 => cls n = p) fun n => rAny (peer p c) (opp n)

/-- The part of its send slot that transfer `n` borrows, which it returns when it has been read. -/
def sendPay (c : Dev nD) (n : Fin 72) : sProp 𝕄 :=
  sPts c (slotOf n) (Ring.shares3 fullShare ⟨n.val % 3, Nat.mod_lt _ (by decide)⟩) (sent I c (slotOf n))

/-- The receive slot `n` with the block that lands there. -/
def recvPay (c : Dev nD) (n : Fin 72) : sProp 𝕄 := rPts c n (landed I c n)

/-- One round. A barrier has six duties of one unit; every transfer semaphore one duty of a block's credit. -/
def sched : Rounds.Schedule (GSem nD τ sig) (Fin 6) 𝕄 where
  duties g r := if r = 0 ∧ g.1.2 = .tc then (match g.2 with
    | .reg s => if s = barS then Finset.univ else ∅
    | .dma q => if 8 ≤ q.val then {0} else ∅) else ∅
  unitless _ := False
  amount g _ _ := match g.2 with
    | .reg _ => 1
    | .dma _ => N
  payload g _ p := match g.2 with
    | .reg _ => barPay g.1.1 p
    | .dma q => if q.val < 80 then sendPay I g.1.1 (sendIx q) else recvPay I g.1.1 (recvIx q)
  amount_pos g _ _ _ := by
    rcases g with ⟨t, _ | _⟩
    · exact Nat.one_pos
    · exact N_pos

instance sched_storable (g : GSem nD τ sig) (r : ℕ) (p : Fin 6) :
    BI.Storable (upEmb : UEmb _ 𝕄) ((sched I).payload g r p) := by
  rcases g with ⟨t, s | q⟩
  · show BI.Storable upEmb (barPay t.1 p)
    unfold barPay; infer_instance
  · show BI.Storable upEmb (if q.val < 80 then sendPay I t.1 (sendIx q) else recvPay I t.1 (recvIx q))
    unfold sendPay recvPay
    split <;> infer_instance

section Facts

variable (c : Dev nD) (n : Fin 72)

theorem duties_bar : (sched I).duties (barCell c) 0 = Finset.univ := by
  dsimp only [sched]
  rw [if_pos ⟨rfl, rfl⟩]
  exact if_pos rfl
theorem duties_send : (sched I).duties (sendCell c n) 0 = {0} := by
  dsimp only [sched]
  rw [if_pos ⟨rfl, rfl⟩]
  exact if_pos (by rw [sendS_val]; omega)
theorem duties_recv : (sched I).duties (recvCell c n) 0 = {0} := by
  dsimp only [sched]
  rw [if_pos ⟨rfl, rfl⟩]
  exact if_pos (by rw [recvS_val]; omega)
theorem duties_later (g : GSem nD τ sig) : ∀ r, 1 ≤ r → (sched I).duties g r = ∅ := fun r hr => if_neg fun h => by omega

theorem amount_bar (p : Fin 6) : (sched I).amount (barCell c) 0 p = 1 := rfl
theorem amount_send (p : Fin 6) : (sched I).amount (sendCell c n) 0 p = N := rfl
theorem amount_recv (p : Fin 6) : (sched I).amount (recvCell c n) 0 p = N := rfl

theorem expect_bar : (sched I).expect (barCell c) 0 = 6 := by
  unfold Schedule.expect Schedule.amountOf
  rw [duties_bar, Finset.sum_congr rfl fun p _ => amount_bar I c p, Finset.sum_const, Finset.card_univ, Fintype.card_fin, smul_eq_mul]
theorem expect_send : (sched I).expect (sendCell c n) 0 = N := by
  unfold Schedule.expect Schedule.amountOf; rw [duties_send, Finset.sum_singleton, amount_send]
theorem expect_recv : (sched I).expect (recvCell c n) 0 = N := by
  unfold Schedule.expect Schedule.amountOf; rw [duties_recv, Finset.sum_singleton, amount_recv]

theorem payload_bar (p : Fin 6) : (sched I).payload (barCell c) 0 p = barPay c p := rfl
theorem payload_send (p : Fin 6) : (sched I).payload (sendCell c n) 0 p = sendPay I c n := by
  show (if (sendS n).val < 80 then sendPay I c (sendIx (sendS n)) else recvPay I c (recvIx (sendS n))) = _
  rw [if_pos (by rw [sendS_val]; have := n.isLt; omega), sendIx_sendS]
theorem payload_recv (p : Fin 6) : (sched I).payload (recvCell c n) 0 p = recvPay I c n := by
  show (if (recvS n).val < 80 then sendPay I c (sendIx (recvS n)) else recvPay I c (recvIx (recvS n))) = _
  rw [if_neg (by rw [recvS_val]; omega), recvIx_recvS]

theorem rest_bar : bigSep ((sched I).duties (barCell c) 0 \ ∅) (fun p => (sched I).payload (barCell c) 0 p) = bigSep Finset.univ fun p => barPay (F := F) c p := by
  rw [Finset.sdiff_empty, duties_bar]; rfl
theorem rest_send : bigSep ((sched I).duties (sendCell c n) 0 \ ∅) (fun p => (sched I).payload (sendCell c n) 0 p) = sendPay I c n := by
  rw [Finset.sdiff_empty, duties_send, bigSep_singleton, payload_send]
theorem rest_recv : bigSep ((sched I).duties (recvCell c n) 0 \ ∅) (fun p => (sched I).payload (recvCell c n) 0 p) = recvPay I c n := by
  rw [Finset.sdiff_empty, duties_recv, bigSep_singleton, payload_recv]

end Facts

/-! ## What a device owes, and in which order it may wait -/

theorem sum_step {α : Type} [AddCommMonoid α] {k : ℕ} (p : Fin k → ℕ) (hp : ∀ i j, p i = p j → i = j) (t : Fin k → α) (i : Fin k) :
    (∑ j, if p i ≤ p j then t j else 0) = (∑ j, if p i + 1 ≤ p j then t j else 0) + t i := by
  rw [← Finset.add_sum_erase Finset.univ _ (Finset.mem_univ i), ← Finset.add_sum_erase Finset.univ (fun j => if p i + 1 ≤ p j then t j else 0) (Finset.mem_univ i),
    if_pos (Nat.le_refl _), if_neg (by omega), zero_add, add_comm]
  congr 1
  refine Finset.sum_congr rfl fun j hj => ?_
  have : p i ≠ p j := fun h => (Finset.mem_erase.mp hj).1 (hp i j h).symm
  by_cases h : p i ≤ p j
  · rw [if_pos h, if_pos (by omega)]
  · rw [if_neg h, if_neg (by omega)]

/-- What a device owes after `s` signals and `a` sends: the units of the signals to come and the credits of the
    transfers to come. -/
@[irreducible] def owed (c : Dev nD) (s a : ℕ) : CellTallies nD τ sig Unit :=
  (∑ n : Fin 72, if a ≤ pos n then (tallyAt (recvCell (peer (cls n) c) (opp n)) () N : CellTallies nD τ sig Unit) else 0)
    + ∑ p : Fin 6, if s ≤ p.val then (tallyAt (barCell (peer p c)) () 1 : CellTallies nD τ sig Unit) else 0

theorem owed_signal (c : Dev nD) (p : Fin 6) (a : ℕ) : owed c p.val a = owed c (p.val + 1) a + tallyAt (barCell (peer p c)) () 1 := by
  unfold owed
  rw [sum_step (fun p : Fin 6 => p.val) (fun i j h => Fin.ext h) _ p, add_assoc]

theorem owed_send (c : Dev nD) (s : ℕ) (n : Fin 72) :
    owed c s (pos n) = owed c s (pos n + 1) + tallyAt (recvCell (peer (cls n) c) (opp n)) () N := by
  unfold owed
  rw [sum_step pos pos_injective _ n]
  exact add_right_comm _ _ _

theorem owed_done (c : Dev nD) (s a : ℕ) (hs : 6 ≤ s) (ha : 72 ≤ a) : owed c s a = 0 := by
  unfold owed
  rw [Finset.sum_eq_zero (fun n _ => if_neg (by have := pos_lt n; omega)), Finset.sum_eq_zero (fun p _ => if_neg (by have := p.isLt; omega)), add_zero]

theorem owed_pos {c : Dev nD} {s a : ℕ} {g : GSem nD τ sig} {u : Unit} (h : 0 < owed c s a g u) :
    (∃ n : Fin 72, a ≤ pos n ∧ g = recvCell (peer (cls n) c) (opp n)) ∨ ∃ p : Fin 6, s ≤ p.val ∧ g = barCell (peer p c) := by
  by_contra hn
  rw [not_or] at hn
  refine absurd h (Nat.not_lt.mpr (Nat.le_of_eq ?_))
  have h1 (n : Fin 72) : (if a ≤ pos n then (tallyAt (recvCell (peer (cls n) c) (opp n)) () N : CellTallies nD τ sig Unit) else 0) g u = 0 := by
    by_cases ha : a ≤ pos n
    · rw [if_pos ha, tallyAt_apply, if_neg fun h' => hn.1 ⟨n, ha, h'.1⟩]
    · rw [if_neg ha]; rfl
  have h2 (p : Fin 6) : (if s ≤ p.val then (tallyAt (barCell (peer p c)) () 1 : CellTallies nD τ sig Unit) else 0) g u = 0 := by
    by_cases hs : s ≤ p.val
    · rw [if_pos hs, tallyAt_apply, if_neg fun h' => hn.2 ⟨p, hs, h'.1⟩]
    · rw [if_neg hs]; rfl
  unfold owed
  rw [Pi.add_apply, Finsupp.add_apply, Finset.sum_apply, Finset.sum_apply, Finsupp.finset_sum_apply, Finsupp.finset_sum_apply,
    Finset.sum_congr rfl fun n _ => h1 n, Finset.sum_congr rfl fun p _ => h2 p, Finset.sum_const_zero, Finset.sum_const_zero, Nat.add_zero]

def L (g : GSem nD τ sig) : Finset Unit := if g.1.2 = .tc then {()} else ∅
/-- The order of waiting: the staging and the senders' semaphores first, then the barrier, then the receive slots stage
    by stage. -/
def lv (g : GSem nD τ sig) (_ : Unit) : ℕ := match g.2 with
  | .reg _ => 1
  | .dma q => if 80 ≤ q.val then 2 + stage ((q.val - 80) / 3) else 0

theorem L_of_ne (g : GSem nD τ sig) (h : g.1.2 ≠ .tc) : L g = ∅ := if_neg h
theorem L_tc (c : Dev nD) (sm : SemLoc sig) : L ((c : Thread nD τ), sm) = {()} := if_pos rfl
theorem lv_send (c : Dev nD) (n : Fin 72) : lv (sendCell c n) () = 0 := if_neg (by rw [sendS_val]; have := n.isLt; omega)
theorem lv_bar (c : Dev nD) : lv (barCell c) () = 1 := rfl
theorem lv_recv (c : Dev nD) (n : Fin 72) : lv (recvCell c n) () = 2 + stage (n.val / 3) := by
  show (if 80 ≤ (recvS n).val then _ else _) = _
  rw [if_pos (by rw [recvS_val]; omega), recvS_val]
  congr 3; omega

/-- The order of waiting, as every device knows it. -/
@[irreducible] def levels : sProp 𝕄 := levAts L lv

instance levels_persistent : BI.Persistent (levels (F := F)) := by unfold levels; infer_instance

/-- A device may wait on a semaphore that comes, in the order of waiting, before everything it still owes. -/
theorem mayWait (c : Dev nD) (sm : SemLoc sig) (s a : ℕ) (hn : ∀ n : Fin 72, a ≤ pos n → lv ((c : Thread nD τ), sm) () < 2 + stage (n.val / 3))
    (hp : 6 ≤ s ∨ lv ((c : Thread nD τ), sm) () < 1) : levels (F := F) ⊢ MayWait (c : Thread nD τ) sm () (owed c s a) := by
  unfold levels
  refine MayOwe.of_cut (L := L) (lev := lv) (lv ((c : Thread nD τ), sm) ()) (fun p hp => by rw [Finset.mem_singleton.mp hp, L_tc]; exact Finset.mem_singleton_self _)
    (fun g u hg => by rcases owed_pos hg with ⟨n, -, rfl⟩ | ⟨p, -, rfl⟩ <;> exact Finset.mem_singleton_self _)
    (fun p hp => by rw [Finset.mem_singleton.mp hp])
    (fun g u hg => by
      rcases owed_pos hg with ⟨n, h, rfl⟩ | ⟨p, h, rfl⟩
      · show _ < lv (recvCell _ _) ()
        rw [lv_recv, opp_div]; exact hn n h
      · show _ < lv (barCell _) ()
        rw [lv_bar]
        rcases hp with h' | h'
        · have := p.isLt; omega
        · exact h')

end Cert.Mlp

end

end
-- ==== Proof.State.lean ====
/-
What a device holds between two steps of the kernel.

The state is described by five counters: `s` signals given (7 once the barrier has been passed), `a` transfers sent,
`b` send slots filled, `w` transfers known to have been read, `w'` receive slots known to be filled. Each exchange
and each slot is in one of a few phases, and the counters say in which.
-/
module

public import proofs.«01_k».proof.Proof.Proto

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F)

/-! ## What every device knows of all cells -/

/-- The cells of a device: its barrier, its semaphores as a sender, its semaphores as a receiver. -/
abbrev Cell : Type := Unit ⊕ (Fin 72 ⊕ Fin 72)

def csem : Cell → SemLoc sig
  | .inl _ => .reg barS
  | .inr (.inl n) => .dma (sendS n)
  | .inr (.inr n) => .dma (recvS n)

def kcell (ck : Dev nD × Cell) : GSem nD τ sig := ((ck.1 : Thread nD τ), csem ck.2)

/-- The invariants of all cells under the names `K`, that every cell has reached its round, and the order of waiting. -/
def known (K : Dev nD × Cell → ℕ) : sProp 𝕄 :=
  iprop((bigSep Finset.univ fun ck : Dev nD × Cell => cellInv ER (sched I) (K ck) (kcell ck))
    ∗ (bigSep Finset.univ fun ck : Dev nD × Cell => reached ER (kcell ck) 0) ∗ levels)

instance known_persistent (K : Dev nD × Cell → ℕ) : BI.Persistent (known I K) := by unfold known; infer_instance

theorem known_inv (K : Dev nD × Cell → ℕ) (ck : Dev nD × Cell) : known I K ⊢ cellInv ER (sched I) (K ck) (kcell ck) := by
  unfold known
  iintro ⟨H, -⟩
  iapply (show (bigSep Finset.univ fun ck : Dev nD × Cell => (cellInv ER (sched I) (K ck) (kcell ck) : sProp 𝕄)) ⊢ cellInv ER (sched I) (K ck) (kcell ck)
    from bigSep_elim (Finset.mem_univ ck))
  iexact H
theorem known_reached (K : Dev nD × Cell → ℕ) (ck : Dev nD × Cell) : known I K ⊢ reached ER (kcell ck) 0 := by
  unfold known
  iintro ⟨-, H, -⟩
  iapply (show (bigSep Finset.univ fun ck : Dev nD × Cell => (reached ER (kcell ck) 0 : sProp 𝕄)) ⊢ reached ER (kcell ck) 0
    from bigSep_elim (Finset.mem_univ ck))
  iexact H
theorem known_levels (K : Dev nD × Cell → ℕ) : known I K ⊢ levels := by
  unfold known
  iintro ⟨-, -, H⟩
  iexact H

variable (K : Dev nD × Cell → ℕ) (c : Dev nD)

theorem known_bar (d : Dev nD) : known I K ⊢ cellInv ER (sched I) (K (d, .inl ())) (barCell d) := known_inv I K (d, .inl ())
theorem known_send (d : Dev nD) (n : Fin 72) : known I K ⊢ cellInv ER (sched I) (K (d, .inr (.inl n))) (sendCell d n) := known_inv I K (d, .inr (.inl n))
theorem known_recv (d : Dev nD) (n : Fin 72) : known I K ⊢ cellInv ER (sched I) (K (d, .inr (.inr n))) (recvCell d n) := known_inv I K (d, .inr (.inr n))
theorem reached_bar (d : Dev nD) : known I K ⊢ reached ER (barCell d) 0 := known_reached I K (d, .inl ())
theorem reached_send (d : Dev nD) (n : Fin 72) : known I K ⊢ reached ER (sendCell d n) 0 := known_reached I K (d, .inr (.inl n))
theorem reached_recv (d : Dev nD) (n : Fin 72) : known I K ⊢ reached ER (recvCell d n) 0 := known_reached I K (d, .inr (.inr n))

/-! ## The phases -/

/-- What a device hands over with its signal to the peer of class `p`: its receive slots that this peer fills. -/
def give (p : Fin 6) : sProp 𝕄 := bigSep (Finset.univ.filter fun n : Fin 72 => cls n = back p) fun n => rAny c (opp n)

/-- The barrier: signals `s` and later are still to be given; after the wait its counter is at zero. -/
def barSt (s : ℕ) : sProp 𝕄 :=
  if s ≤ 6 then iprop(atPos ER (barCell c) 0 ∅ 0 ∗ cred (tallyAt (barCell c) () 6)
    ∗ bigSep Finset.univ fun p : Fin 6 => if s ≤ p.val then iprop(dutyTok ER (barCell (peer p c)) 0 (back p) ∗ give c p) else iprop(emp))
  else semVal (barCell c) 0

/-- The sender's side of exchange `n`: read, under way, or to be sent. -/
def sendSt (s a w : ℕ) (n : Fin 72) : sProp 𝕄 :=
  if pos n < w then iprop(semVal (sendCell c n) 0 ∗ sendPay I c n)
  else if pos n < a then iprop(atPos ER (sendCell c n) 0 ∅ 0 ∗ cred (tallyAt (sendCell c n) () N))
  else iprop(atPos ER (sendCell c n) 0 ∅ 0 ∗ dutyTok ER (sendCell c n) 0 0 ∗ dutyTok ER (recvCell (peer (cls n) c) (opp n)) 0 0
    ∗ if 7 ≤ s then rAny (peer (cls n) c) (opp n) else iprop(emp))

/-- A send slot: those thirds of it that are not lent out, once it is filled. -/
def slotSt (a b : ℕ) (k : Fin 24) : sProp 𝕄 :=
  if stage k.val < b then bigSep Finset.univ fun j : Fin 3 =>
    if 3 * stage k.val + j.val < a then iprop(emp) else sPts c k (Ring.shares3 fullShare j) (sent I c k)
  else sAny c k

/-- The receiver's side of exchange `n`: filled, or to be waited for. -/
def recvSt (w' : ℕ) (n : Fin 72) : sProp 𝕄 :=
  if pos n < w' then iprop(semVal (recvCell c (opp n)) 0 ∗ recvPay I c (opp n))
  else iprop(atPos ER (recvCell c (opp n)) 0 ∅ 0 ∗ cred (tallyAt (recvCell c (opp n)) () N))

/-- A staging buffer holding `X`. -/
def held (b : Ref sig .tc) (X : b.ty.Contents (Elt F)) : sProp 𝕄 := ((c : Thread nD τ).loc b) ↦{fullShare} X

/-- The staging buffers of the inputs, and what they hold. -/
def stgRef : Fin 7 → Ref sig .tc
  | 0 => cc0_stg0_0
  | 1 => cc0_stg1_0
  | 2 => cc0_stg2_0
  | 3 => cc0_stg3_0
  | 4 => cc0_stg4_0
  | 5 => cc0_stg5_0
  | 6 => cc0_stg6_0
def Ins.val {F : FTy → Type} (I : Ins F) : (i : Fin 7) → (stgRef i).ty.Contents (Elt F)
  | 0 => I.x
  | 1 => I.wi0
  | 2 => I.wo0
  | 3 => I.wi1
  | 4 => I.wo1
  | 5 => I.wi2
  | 6 => I.wo2
def inputs : sProp 𝕄 := bigSep Finset.univ fun i => held c (stgRef i) ((I c).val i)

/-- What device `c` holds. -/
def St (s a b w w' : ℕ) (fo : (cc0_stg7_0 : Ref sig .tc).ty.Contents (Elt F)) : sProp 𝕄 :=
  iprop(known I K ∗ barSt c s ∗ (bigSep Finset.univ fun n => sendSt I c s a w n) ∗ (bigSep Finset.univ fun k => slotSt I c a b k)
    ∗ (bigSep Finset.univ fun n => recvSt I c w' n) ∗ (∃ W, owes (c : Thread nD τ) (owed c s a) W) ∗ inputs I c ∗ held c cc0_stg7_0 fo)

end Cert.Mlp

end

end
-- ==== Proof.Steps.lean ====
/-
What each kind of step of the kernel does to the state.

`Runs c S p P S'` says that device `c`, holding `S`, runs the program `p` to the end, with a result that satisfies
`P`, and then holds `S'`. There is one lemma for each kind of step; each moves one counter of the state.
-/
module

public import proofs.«01_k».proof.Proof.State

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c`, holding `S`, runs `p` to a result satisfying `P` and then holds `S'`. -/
def Runs (c : Dev nD) {α : Type} (S : sProp 𝕄) (p : Prog (TpuEff nD τ sig (Elt F) Λ₀ .tc) α) (P : α → Prop) (S' : sProp 𝕄) : Prop :=
  ∀ Q : α → sProp 𝕄, (∀ v, P v → S' ⊢ Q v) → S ⊢ wp frame (wpE (defs₀ (F := F)) 𝒱₀ (c : Thread nD τ) none) Set.univ p Q

section General

theorem Runs.ret {c : Dev nD} {α : Type} {S : sProp 𝕄} {x : α} {P : α → Prop} (h : P x) : Runs c S (pure x) P S := fun Q hQ => by
  rw [wp_pure]
  exact (hQ x h).trans fupd_intro

theorem Runs.bind {c : Dev nD} {α β : Type} {S S₁ S' : sProp 𝕄} {p : Prog (TpuEff nD τ sig (Elt F) Λ₀ .tc) α} {k : α → Prog (TpuEff nD τ sig (Elt F) Λ₀ .tc) β} {P : α → Prop} {P' : β → Prop}
    (hp : Runs c S p P S₁) (hk : ∀ v, P v → Runs c S₁ (k v) P' S') : Runs c S (p >>= k) P' S' := fun Q hQ => by
  rw [wp_bind]
  exact hp _ fun v hv => hk v hv Q hQ

/-- In sequence, when the result of the first program is known. -/
theorem Runs.seq {c : Dev nD} {α β : Type} {S S₁ S' : sProp 𝕄} {p : Prog (TpuEff nD τ sig (Elt F) Λ₀ .tc) α} {k : α → Prog (TpuEff nD τ sig (Elt F) Λ₀ .tc) β} {x : α} {P' : β → Prop}
    (hp : Runs c S p (Eq x) S₁) (hk : Runs c S₁ (k x) P' S') : Runs c S (p >>= k) P' S' :=
  hp.bind fun _ h => h ▸ hk

/-- One step at the head of a program. -/
theorem Runs.step {c : Dev nD} {α : Type} {S S₁ S' : sProp 𝕄} {γ : Type} {e : TpuEff nD τ sig (Elt F) Λ₀ .tc γ} {k : γ → Prog (TpuEff nD τ sig (Elt F) Λ₀ .tc) α} {x : γ} {P : α → Prop}
    (hk : Runs c S₁ (k x) P S')
    (h : ∀ Q : α → sProp 𝕄, S ⊢ iprop((S₁ -∗ wp frame (wpE (defs₀ (F := F)) 𝒱₀ (c : Thread nD τ) none) Set.univ (k x) Q)
      -∗ wp frame (wpE (defs₀ (F := F)) 𝒱₀ (c : Thread nD τ) none) Set.univ (.op e k) Q)) : Runs c S (.op e k) P S' := fun Q hQ => by
  iintro H
  iapply (h Q) $$ H
  iintro H
  iapply (hk Q hQ) $$ H

theorem Runs.deviceId {c : Dev nD} {α : Type} {S S' : sProp 𝕄} {k : Dev nD → Prog (TpuEff nD τ sig (Elt F) Λ₀ .tc) α} {P : α → Prop} (hk : Runs c S (k c) P S') :
    Runs c S (Prog.lift .deviceId >>= k) P S' := fun Q hQ => by
  rw [show (Prog.lift .deviceId >>= k : Prog (TpuEff nD τ sig (Elt F) Λ₀ .tc) α) = .op .deviceId k from rfl, wp_deviceId]
  exact hk Q hQ

end General

variable (I : Dev nD → Ins F) (K : Dev nD × Cell → ℕ) (c : Dev nD) {α : Type} {P : α → Prop}
  {s a b w w' : ℕ} {fo : (cc0_stg7_0 : Ref sig .tc).ty.Contents (Elt F)}

/-! ## The handshake -/

theorem step_signal {S' : sProp 𝕄} (p : Fin 6) (d : Dev nD) (hd : d = peer p c) {k : PUnit → Prog (TpuEff nD τ sig (Elt F) Λ₀ .tc) α}
    (hk : Runs c (St I K c (p.val + 1) a b w w' fo) (k ⟨⟩) P S') :
    Runs c (St I K c p.val a b w w' fo) (.op (.semSignal (d : Thread nD τ) barS ((1 : ℕ) : ℤ)) k) P S' := hk.step fun Q => by
  subst hd
  have hp := p.isLt
  have hsend : (bigSep Finset.univ fun n => sendSt I c p.val a w n) = bigSep Finset.univ fun n => sendSt I c (p.val + 1) a w n :=
    bigSep_congr fun n _ => by
      have h1 : ¬ 7 ≤ p.val := by omega
      have h2 : ¬ 7 ≤ p.val + 1 := by omega
      unfold sendSt; rw [if_neg h1, if_neg h2]
  unfold St
  rw [hsend]
  unfold barSt
  rw [if_pos (by omega : p.val ≤ 6), if_pos (by omega : p.val + 1 ≤ 6)]
  iintro ⟨#HK, ⟨Hat, Hcr, Hp⟩, Hs, Hb, Hr, ⟨%W, HO⟩, Hin, Hout⟩ Hk
  ihave Hp' := (bigSep_univ_update (Φ := fun q : Fin 6 => if p.val ≤ q.val then iprop(dutyTok ER (barCell (peer q c)) 0 (back q) ∗ give (F := F) c q) else iprop(emp))
    (Ψ := fun q : Fin 6 => if p.val + 1 ≤ q.val then iprop(dutyTok ER (barCell (peer q c)) 0 (back q) ∗ give (F := F) c q) else iprop(emp)) p
    (fun q hq => by
      have : p.val ≠ q.val := fun h => hq (Fin.ext h.symm)
      by_cases h : p.val ≤ q.val
      · rw [if_pos h, if_pos (by omega)]
      · rw [if_neg h, if_neg (by omega)])) $$ Hp
  rw [if_pos (Nat.le_refl _), if_neg (by omega : ¬ p.val + 1 ≤ p.val)]
  icases Hp' with ⟨⟨Htok, Hgive⟩, Hrest⟩
  iapply (Rounds.wp_signal 𝒱₀ ER (sched I) (c : Thread nD τ) none (dst := (peer p c : Thread nD τ)) (sem := barS) (r := 0) (k' := 1) (κ := K (peer p c, .inl ()))
    (d := back p) (by rw [duties_bar]; exact Finset.mem_univ _) (amount_bar I (peer p c) (back p)) () (owed c (p.val + 1) a) (owed_signal c p a)) $$ [HO Htok Hgive]
  · isplitr; · iapply (known_bar I K (peer p c)); iexact HK
    isplitl [HO]; · iexact HO
    isplitl [Htok]; · iexact Htok
    isplitl [Hgive]
    · rw [payload_bar]; unfold barPay; rw [peer_back]; unfold give; iexact Hgive
    iapply (reached_bar I K (peer p c)); iexact HK
  iintro HO
  iapply Hk
  isplitr; · iexact HK
  isplitl [Hat Hcr Hrest]
  · isplitl [Hat]; · iexact Hat
    isplitl [Hcr]; · iexact Hcr
    iapply Hrest; iempintro
  isplitl [Hs]; · iexact Hs
  isplitl [Hb]; · iexact Hb
  isplitl [Hr]; · iexact Hr
  isplitl [HO]; · iexists W; iexact HO
  isplitl [Hin]; · iexact Hin
  iexact Hout

/-- What the six signals bring is, for every exchange, the receive slot that it fills. -/
theorem deal (c : Dev nD) : (bigSep Finset.univ fun p : Fin 6 => barPay (F := F) c p) ⊢ bigSep Finset.univ fun n : Fin 72 => rAny (F := F) (peer (cls n) c) (opp n) := by
  have h : (Finset.univ : Finset (Fin 6)).biUnion (fun p => Finset.univ.filter fun n : Fin 72 => cls n = p) = Finset.univ := by
    ext n
    simp only [Finset.mem_biUnion, Finset.mem_filter, Finset.mem_univ, true_and, exists_eq']
  rw [← h]
  refine .trans (Entails.of_eq (bigSep_congr fun p _ => ?_)) (bigSep_biUnion (Finset.univ : Finset (Fin 6)) (fun p => Finset.univ.filter fun n : Fin 72 => cls n = p))
  unfold barPay
  exact bigSep_congr fun n hn => by rw [(Finset.mem_filter.mp hn).2]

theorem step_bar {S' : sProp 𝕄} {k : PUnit → Prog (TpuEff nD τ sig (Elt F) Λ₀ .tc) α} (hk : Runs c (St I K c 7 0 b 0 w' fo) (k ⟨⟩) P S') :
    Runs c (St I K c 6 0 b 0 w' fo) (.op (.semWait barS ((6 : ℕ) : ℤ)) k) P S' := hk.step fun Q => by
  have hsend : (iprop((bigSep Finset.univ fun n => sendSt I c 6 0 0 n) ∗ bigSep Finset.univ fun n : Fin 72 => rAny (F := F) (peer (cls n) c) (opp n)) : sProp 𝕄)
      ⊢ bigSep Finset.univ fun n => sendSt I c 7 0 0 n := by
    rw [← bigSep_sep']
    refine bigSep_mono fun n _ => ?_
    unfold sendSt
    rw [if_neg (Nat.not_lt_zero _), if_neg (Nat.not_lt_zero _), if_neg (Nat.not_lt_zero _), if_neg (Nat.not_lt_zero _), if_neg (by omega), if_pos (Nat.le_refl _)]
    show iprop((_ ∗ _ ∗ _ ∗ emp) ∗ _) ⊢ (iprop(_ ∗ _ ∗ _ ∗ _) : sProp 𝕄)
    iintro ⟨⟨H1, H2, H3, -⟩, H4⟩
    isplitl [H1]; · iexact H1
    isplitl [H2]; · iexact H2
    isplitl [H3]; · iexact H3
    iexact H4
  have howed : owed c 6 0 = owed c 7 0 := by
    unfold owed
    refine congrArg (_ + ·) (Finset.sum_congr rfl fun p _ => ?_)
    rw [if_neg (by have := p.isLt; omega), if_neg (by have := p.isLt; omega)]
  have hp : 6 ≤ 7 ∨ lv (barCell c) () < 1 := Or.inl (by decide)
  have hn : ∀ n : Fin 72, 0 ≤ pos n → lv (barCell c) () < 2 + stage (n.val / 3) := fun n _ => by rw [lv_bar]; omega
  have hm := mayWait (F := F) c (.reg barS) 7 0 hn hp
  have hmw := (known_levels I K).trans hm
  unfold St
  rw [howed]
  unfold barSt
  rw [if_pos (Nat.le_refl _), if_neg (by omega : ¬ 7 ≤ 6)]
  iintro ⟨#HK, ⟨Hat, Hcr, -⟩, Hs, Hb, Hr, ⟨%W, HO⟩, Hin, Hout⟩ Hk
  iapply (Rounds.wp_wait_rest_token 𝒱₀ ER (sched I) (c : Thread nD τ) none (κ := K (c, .inl ()))
      (wpE_semWait_eq 𝒱₀ (c : Thread nD τ) none Set.univ) (Set.mem_univ _) () (O := owed c 7 0) (W := W) (R := 0) (m := 0) (T := ∅)
      (by rw [expect_bar])) $$ [Hcr HO Hat]
  · isplitr; · iapply (known_bar I K c); iexact HK
    isplitl [Hcr]; · iexact Hcr
    isplitl [HO]; · iexact HO
    isplitr
    · ihave Hm := hmw $$ HK
      iexact Hm
    iexact Hat
  iintro ⟨HO, Hat, -, Hpay⟩
  ihave Hp := ((Entails.of_eq (rest_bar I c)).trans (deal c)) $$ Hpay
  ihave Hs' := hsend $$ [Hs Hp]
  · isplitl [Hs]; · iexact Hs
    iexact Hp
  imod (Rounds.cell_close ER (sched I) (g := barCell c) (Set.mem_univ (K (c, .inl ()))) (fun h => h) (R := 0 + 1) (duties_later I (barCell c))) $$ [Hat] with Hz
  · isplitr; · iapply (known_bar I K c); iexact HK
    iexact Hat
  iapply Hk
  isplitr; · iexact HK
  isplitl [Hz]; · iexact Hz
  isplitl [Hs']; · iexact Hs'
  isplitl [Hb]; · iexact Hb
  isplitl [Hr]; · iexact Hr
  isplitl [HO]; · iexists _; iexact HO
  isplitl [Hin]; · iexact Hin
  iexact Hout

/-! ## Transfers -/

theorem sendSt_other {n n' : Fin 72} (h : n' ≠ n) (s w : ℕ) : sendSt I c s (pos n + 1) w n' = sendSt I c s (pos n) w n' := by
  have : pos n' ≠ pos n := fun e => h (pos_injective _ _ e)
  have e : (pos n' < pos n + 1) = (pos n' < pos n) := propext (by omega)
  unfold sendSt
  simp only [e]

theorem slotSt_other {n : Fin 72} {k : Fin 24} (h : k ≠ slotOf n) (b : ℕ) : slotSt I c (pos n + 1) b k = slotSt I c (pos n) b k := by
  have h1 : stage k.val ≠ stage (n.val / 3) := fun e => h (stage_injective k (slotOf n) e)
  unfold slotSt
  congr 1
  refine bigSep_congr fun j _ => ?_
  have e : (3 * stage k.val + j.val < pos n + 1) = (3 * stage k.val + j.val < pos n) := propext (by unfold pos; have := j.isLt; omega)
  simp only [e]

theorem slotSt_send {n : Fin 72} (hb : stage (n.val / 3) < b) :
    slotSt I c (pos n) b (slotOf n) ⊢ iprop(sPts c (slotOf n) (Ring.shares3 fullShare ⟨n.val % 3, Nat.mod_lt _ (by decide)⟩) (sent I c (slotOf n))
      ∗ slotSt I c (pos n + 1) b (slotOf n)) := by
  unfold slotSt
  rw [if_pos (show stage (slotOf n).val < b from hb), if_pos (show stage (slotOf n).val < b from hb)]
  iintro H
  ihave H' := (bigSep_univ_update
    (Φ := fun j : Fin 3 => if 3 * stage (slotOf n).val + j.val < pos n then (iprop(emp) : sProp 𝕄) else sPts c (slotOf n) (Ring.shares3 fullShare j) (sent I c (slotOf n)))
    (Ψ := fun j : Fin 3 => if 3 * stage (slotOf n).val + j.val < pos n + 1 then (iprop(emp) : sProp 𝕄) else sPts c (slotOf n) (Ring.shares3 fullShare j) (sent I c (slotOf n)))
    ⟨n.val % 3, Nat.mod_lt _ (by decide)⟩ (fun j hj => by
      have h1 : j.val ≠ n.val % 3 := fun e => hj (Fin.ext e)
      have e : (3 * stage (slotOf n).val + j.val < pos n + 1) = (3 * stage (slotOf n).val + j.val < pos n) :=
        propext (by unfold pos; show 3 * stage (n.val / 3) + j.val < _ ↔ 3 * stage (n.val / 3) + j.val < _; omega)
      simp only [e])) $$ H
  rw [if_neg (show ¬ 3 * stage (slotOf n).val + n.val % 3 < pos n from Nat.lt_irrefl _),
    if_pos (show 3 * stage (slotOf n).val + n.val % 3 < pos n + 1 from Nat.lt_succ_self _)]
  icases H' with ⟨H1, H2⟩
  isplitl [H1]; · iexact H1
  iapply H2; iempintro

theorem step_send {S' : sProp 𝕄} (n : Fin 72) (d : Dev nD) (hd : d = peer (cls n) c) (hs : 7 ≤ s) (hb : stage (n.val / 3) < b) (hw : w ≤ pos n)
    {hsc : (rQ (opp n) : Memref sig (Dev.tc d : Thread nD τ).2.kind .vmem S32x256 .f32).view.ref.isScScratch = false}
    {hsrc : (sQ (slotOf n)).view.WordExact} {hdst : (rQ (opp n)).view.WordExact}
    {hsem : DmaTarget.Typed .vmem (.dma (recvS (opp n))) (.remote (Dev.tc d : Thread nD τ) (rQ (opp n)) (.dma (sendS n)) hsc)}
    {k : PUnit → Prog (TpuEff nD τ sig (Elt F) Λ₀ .tc) α} (hk : Runs c (St I K c s (pos n + 1) b w w' fo) (k ⟨⟩) P S') :
    Runs c (St I K c s (pos n) b w w' fo)
      (.op (.enqueueDma (sQ (slotOf n)) (.remote (Dev.tc d : Thread nD τ) (rQ (opp n)) (.dma (sendS n)) hsc) (.dma (recvS (opp n))) hsrc hdst hsem) k) P S' := hk.step fun Q => by
  subst hd
  unfold St
  iintro ⟨#HK, Hbar, Hs, Hb, Hr, ⟨%W, HO⟩, Hin, Hout⟩ Hk
  ihave Hs' := (bigSep_univ_update (Φ := fun n' => sendSt I c s (pos n) w n') (Ψ := fun n' => sendSt I c s (pos n + 1) w n') n
    (fun n' h => sendSt_other I c h s w)) $$ Hs
  ihave Hb' := (bigSep_univ_update (Φ := fun k' => slotSt I c (pos n) b k') (Ψ := fun k' => slotSt I c (pos n + 1) b k') (slotOf n)
    (fun k' h => slotSt_other I c h b)) $$ Hb
  icases Hb' with ⟨Hsl, Hb⟩
  ihave Hsl' := (slotSt_send I c hb) $$ Hsl
  icases Hsl' with ⟨Hsrc, Hsl⟩
  rw [show sendSt I c s (pos n) w n = iprop(atPos ER (sendCell c n) 0 ∅ 0 ∗ dutyTok ER (sendCell c n) 0 0 ∗ dutyTok ER (recvCell (peer (cls n) c) (opp n)) 0 0
      ∗ rAny (peer (cls n) c) (opp n)) from by
    unfold sendSt; rw [if_neg (by omega), if_neg (by omega), if_pos hs],
    show sendSt I c s (pos n + 1) w n = iprop(atPos ER (sendCell c n) 0 ∅ 0 ∗ cred (tallyAt (sendCell c n) () N)) from by
    unfold sendSt; rw [if_neg (by omega), if_pos (by omega)]]
  icases Hs' with ⟨Hn, Hs⟩
  unfold rAny
  icases Hn with ⟨Hat, Ht1, Ht2, ⟨%fd, Hdst⟩⟩
  have hset1 : (sQ (slotOf n)).view.set = (sB (slotOf n)).view.set := View.set_reshape (sB (slotOf n)).view squeezes_S1x32x256_S32x256.numel_eq
  have hset2 : (rQ (opp n)).view.set = (rB (opp n)).view.set := View.set_reshape (rB (opp n)).view squeezes_S1x32x256_S32x256.numel_eq
  iapply (Rounds.wp_send_pointsTo 𝒱₀ ER (sched I) (c : Thread nD τ) none (κ₁ := K (c, .inr (.inl n))) (κ₂ := K (peer (cls n) c, .inr (.inr (opp n))))
    (c' := (peer (cls n) c : Thread nD τ)) (src := sQ (slotOf n)) (dst := rQ (opp n)) (sS := .dma (sendS n)) (sem := .dma (recvS (opp n)))
    (q := Ring.shares3 fullShare ⟨n.val % 3, Nat.mod_lt _ (by decide)⟩) (fs := sBuf (slotOf n) (sent I c (slotOf n)))
    (r₁ := 0) (r₂ := 0) (d₁ := 0) (d₂ := 0) (fd := fd)
    (by rw [duties_send]; exact Finset.mem_singleton_self _) (by rw [duties_recv]; exact Finset.mem_singleton_self _)
    () () N rfl (amount_send I c n 0) (amount_recv I (peer (cls n) c) (opp n) 0) (owed c s (pos n + 1)) (owed_send c s n) (W := W)
    (by rw [payload_send, hset1]; unfold sendPay sPts; exact BI.Entails.refl _)
    (by
      rw [payload_recv, rPts_of_transfer]
      unfold recvPay landed
      rw [cls_opp, peer_back, show slotOf (opp n) = slotOf n from Fin.ext (opp_div n)]
      )) $$ [HO Hsrc Hdst Ht1 Ht2]
  · isplitr; · iapply (known_send I K c n); iexact HK
    isplitr; · iapply (known_recv I K (peer (cls n) c) (opp n)); iexact HK
    isplitl [Hsrc]; · rw [hset1]; unfold sPts; iexact Hsrc
    isplitl [Hdst]; · rw [hset2]; iexact Hdst
    isplitl [HO]; · iexact HO
    isplitl [Ht1]; · iexact Ht1
    isplitr; · iapply (reached_send I K c n); iexact HK
    isplitl [Ht2]; · iexact Ht2
    iapply (reached_recv I K (peer (cls n) c) (opp n)); iexact HK
  iintro ⟨Hcr, HO⟩
  iapply Hk
  isplitr; · iexact HK
  isplitl [Hbar]; · iexact Hbar
  isplitl [Hs Hat Hcr]
  · iapply Hs
    isplitl [Hat]; · iexact Hat
    iexact Hcr
  isplitl [Hb Hsl]; · iapply Hb; iexact Hsl
  isplitl [Hr]; · iexact Hr
  isplitl [HO]; · iexists W; iexact HO
  isplitl [Hin]; · iexact Hin
  iexact Hout

theorem step_sent {S' : sProp 𝕄} (n : Fin 72) (hs : 6 ≤ s) (ha : pos n < a)
    {src : Memref sig .tc .vmem S32x256 .f32} {k' : Fin 24} {hsrc : src.view.WordExact} {hdst : (sQ k').view.WordExact}
    {k : PUnit → Prog (TpuEff nD τ sig (Elt F) Λ₀ .tc) α} (hk : Runs c (St I K c s a b (pos n + 1) w' fo) (k ⟨⟩) P S') :
    Runs c (St I K c s a b (pos n) w' fo) (.op (.waitDma2 (sendS n) src (sQ k') hsrc hdst) k) P S' := hk.step fun Q => by
  have hp : 6 ≤ s ∨ lv (sendCell c n) () < 1 := Or.inl hs
  have hn : ∀ n' : Fin 72, a ≤ pos n' → lv (sendCell c n) () < 2 + stage (n'.val / 3) := fun n' _ => by rw [lv_send]; omega
  have hm := mayWait (F := F) c (.dma (sendS n)) s a hn hp
  have hmw := (known_levels I K).trans hm
  unfold St
  iintro ⟨#HK, Hbar, Hs, Hb, Hr, ⟨%W, HO⟩, Hin, Hout⟩ Hk
  ihave Hs' := (bigSep_univ_update (Φ := fun n' => sendSt I c s a (pos n) n') (Ψ := fun n' => sendSt I c s a (pos n + 1) n') n
    (fun n' h => by
      have : pos n' ≠ pos n := fun e => h (pos_injective _ _ e)
      have e : (pos n' < pos n + 1) = (pos n' < pos n) := propext (by omega)
      unfold sendSt; simp only [e])) $$ Hs
  rw [show sendSt I c s a (pos n) n = iprop(atPos ER (sendCell c n) 0 ∅ 0 ∗ cred (tallyAt (sendCell c n) () N)) from by
    unfold sendSt; rw [if_neg (by omega), if_pos ha],
    show sendSt I c s a (pos n + 1) n = iprop(semVal (sendCell c n) 0 ∗ sendPay I c n) from by
    unfold sendSt; rw [if_pos (by omega)]]
  icases Hs' with ⟨Hn, Hs⟩
  icases Hn with ⟨Hat, Hcr⟩
  iapply (Rounds.wp_wait_rest_token 𝒱₀ ER (sched I) (c : Thread nD τ) none (κ := K (c, .inr (.inl n)))
      (wpE_waitDma2_eq 𝒱₀ (c : Thread nD τ) none Set.univ) (Set.mem_univ _) () (O := owed c s a) (W := W) (R := 0) (m := 0) (T := ∅)
      (by rw [expect_send]; exact Nat.zero_add _)) $$ [Hcr HO Hat]
  · isplitr; · iapply (known_send I K c n); iexact HK
    isplitl [Hcr]; · iexact Hcr
    isplitl [HO]; · iexact HO
    isplitr
    · ihave Hm := hmw $$ HK
      iexact Hm
    iexact Hat
  iintro ⟨HO, Hat, -, Hpay⟩
  ihave Hp := (Entails.of_eq (rest_send I c n)) $$ Hpay
  imod (Rounds.cell_close ER (sched I) (g := sendCell c n) (Set.mem_univ (K (c, .inr (.inl n)))) (fun h => h) (R := 0 + 1) (duties_later I (sendCell c n))) $$ [Hat] with Hz
  · isplitr; · iapply (known_send I K c n); iexact HK
    iexact Hat
  iapply Hk
  isplitr; · iexact HK
  isplitl [Hbar]; · iexact Hbar
  isplitl [Hs Hz Hp]
  · iapply Hs
    isplitl [Hz]; · iexact Hz
    iexact Hp
  isplitl [Hb]; · iexact Hb
  isplitl [Hr]; · iexact Hr
  isplitl [HO]; · iexists _; iexact HO
  isplitl [Hin]; · iexact Hin
  iexact Hout

theorem step_arrived {S' : sProp 𝕄} (n : Fin 72) (hs : 6 ≤ s) (ha : 3 * stage (n.val / 3) + 3 ≤ a)
    {src : Memref sig .tc .vmem S32x256 .f32} {hsrc : src.view.WordExact} {hdst : (rQ (opp n)).view.WordExact}
    {k : PUnit → Prog (TpuEff nD τ sig (Elt F) Λ₀ .tc) α} (hk : Runs c (St I K c s a b w (pos n + 1) fo) (k ⟨⟩) P S') :
    Runs c (St I K c s a b w (pos n) fo) (.op (.waitDma2 (recvS (opp n)) src (rQ (opp n)) hsrc hdst) k) P S' := hk.step fun Q => by
  have hp : 6 ≤ s ∨ lv (recvCell c (opp n)) () < 1 := Or.inl hs
  have hn : ∀ n' : Fin 72, a ≤ pos n' → lv (recvCell c (opp n)) () < 2 + stage (n'.val / 3) := fun n' h => by
    rw [lv_recv, opp_div]; unfold pos at h; omega
  have hm := mayWait (F := F) c (.dma (recvS (opp n))) s a hn hp
  have hmw := (known_levels I K).trans hm
  unfold St
  iintro ⟨#HK, Hbar, Hs, Hb, Hr, ⟨%W, HO⟩, Hin, Hout⟩ Hk
  ihave Hr' := (bigSep_univ_update (Φ := fun n' => recvSt I c (pos n) n') (Ψ := fun n' => recvSt I c (pos n + 1) n') n
    (fun n' h => by
      have : pos n' ≠ pos n := fun e => h (pos_injective _ _ e)
      have e : (pos n' < pos n + 1) = (pos n' < pos n) := propext (by omega)
      unfold recvSt; simp only [e])) $$ Hr
  rw [show recvSt I c (pos n) n = iprop(atPos ER (recvCell c (opp n)) 0 ∅ 0 ∗ cred (tallyAt (recvCell c (opp n)) () N)) from by
    unfold recvSt; rw [if_neg (by omega)],
    show recvSt I c (pos n + 1) n = iprop(semVal (recvCell c (opp n)) 0 ∗ recvPay I c (opp n)) from by
    unfold recvSt; rw [if_pos (by omega)]]
  icases Hr' with ⟨Hn, Hr⟩
  icases Hn with ⟨Hat, Hcr⟩
  iapply (Rounds.wp_wait_rest_token 𝒱₀ ER (sched I) (c : Thread nD τ) none (κ := K (c, .inr (.inr (opp n))))
      (wpE_waitDma2_eq 𝒱₀ (c : Thread nD τ) none Set.univ) (Set.mem_univ _) () (O := owed c s a) (W := W) (R := 0) (m := 0) (T := ∅)
      (by rw [expect_recv]; exact Nat.zero_add _)) $$ [Hcr HO Hat]
  · isplitr; · iapply (known_recv I K c (opp n)); iexact HK
    isplitl [Hcr]; · iexact Hcr
    isplitl [HO]; · iexact HO
    isplitr
    · ihave Hm := hmw $$ HK
      iexact Hm
    iexact Hat
  iintro ⟨HO, Hat, -, Hpay⟩
  ihave Hp := (Entails.of_eq (rest_recv I c (opp n))) $$ Hpay
  imod (Rounds.cell_close ER (sched I) (g := recvCell c (opp n)) (Set.mem_univ (K (c, .inr (.inr (opp n))))) (fun h => h) (R := 0 + 1) (duties_later I (recvCell c (opp n)))) $$ [Hat] with Hz
  · isplitr; · iapply (known_recv I K c (opp n)); iexact HK
    iexact Hat
  iapply Hk
  isplitr; · iexact HK
  isplitl [Hbar]; · iexact Hbar
  isplitl [Hs]; · iexact Hs
  isplitl [Hb]; · iexact Hb
  isplitl [Hr Hz Hp]
  · iapply Hr
    isplitl [Hz]; · iexact Hz
    iexact Hp
  isplitl [HO]; · iexists _; iexact HO
  isplitl [Hin]; · iexact Hin
  iexact Hout

/-! ## Loads and stores -/

theorem step_landed {S' : sProp 𝕄} (n : Fin 72) (hw : pos n < w') {hl : rM.view.LoadsAt (rR (opp n)).toLoadRect}
    {k : (Vec F S1x32x256 .f32) → Prog (TpuEff nD τ sig (Elt F) Λ₀ .tc) α} (hk : Runs c (St I K c s a b w w' fo) (k (landed I c (opp n))) P S') :
    Runs c (St I K c s a b w w' fo) (.op (.load rM (rR (opp n)).toLoadRect hl) k) P S' := hk.step fun Q => by
  unfold St
  iintro ⟨#HK, Hbar, Hs, Hb, Hr, HO, Hin, Hout⟩ Hk
  ihave Hr' := (bigSep_univ_update (Φ := fun n' => recvSt I c w' n') (Ψ := fun n' => recvSt I c w' n') n (fun n' h => rfl)) $$ Hr
  rw [show recvSt I c w' n = iprop(semVal (recvCell c (opp n)) 0 ∗ recvPay I c (opp n)) from by
    unfold recvSt; rw [if_pos hw]]
  icases Hr' with ⟨Hn, Hr⟩
  icases Hn with ⟨Hz, Hp⟩
  unfold recvPay rPts
  iapply (wp_load_rect 𝒱₀ (c : Thread nD τ) none Set.univ (m := rM) (r := rR (opp n)) (hl := hl) (S := (rB (opp n)).view.set) (f := rBuf (opp n) (landed I c (opp n)))
    (Finset.Subset.refl _)) $$ Hp
  iintro Hp
  rw [show (rM.access (rR (opp n))).read (Elt F) (rBuf (opp n) (landed I c (opp n))) = landed I c (opp n) from rBuf_read _ _]
  iapply Hk
  isplitr; · iexact HK
  isplitl [Hbar]; · iexact Hbar
  isplitl [Hs]; · iexact Hs
  isplitl [Hb]; · iexact Hb
  isplitl [Hr Hz Hp]
  · iapply Hr
    isplitl [Hz]; · iexact Hz
    iexact Hp
  isplitl [HO]; · iexact HO
  isplitl [Hin]; · iexact Hin
  iexact Hout

theorem step_fill {S' : sProp 𝕄} (k' : Fin 24) (ha : a ≤ 3 * stage k'.val) {hx} {hm}
    {k : PUnit → Prog (TpuEff nD τ sig (Elt F) Λ₀ .tc) α} (hk : Runs c (St I K c s a (stage k'.val + 1) w w' fo) (k ⟨⟩) P S') :
    Runs c (St I K c s a (stage k'.val) w w' fo) (.op (.store sM (sR k') (sent I c k') Finset.univ hx hm) k) P S' := hk.step fun Q => by
  unfold St
  iintro ⟨#HK, Hbar, Hs, Hb, Hr, HO, Hin, Hout⟩ Hk
  ihave Hb' := (bigSep_univ_update (Φ := fun k₁ => slotSt I c a (stage k'.val) k₁) (Ψ := fun k₁ => slotSt I c a (stage k'.val + 1) k₁) k' (fun k₁ h => by
      have : stage k₁.val ≠ stage k'.val := fun e => h (stage_injective _ _ e)
      have e : (stage k₁.val < stage k'.val + 1) = (stage k₁.val < stage k'.val) := propext (by omega)
      unfold slotSt; simp only [e])) $$ Hb
  rw [show slotSt I c a (stage k'.val) k' = sAny c k' from by unfold slotSt; rw [if_neg (Nat.lt_irrefl _)],
    show slotSt I c a (stage k'.val + 1) k' = sPts c k' fullShare (sent I c k') from by
      unfold slotSt
      rw [if_pos (Nat.lt_succ_self _), Entails.antisymm (sPts_thirds c k' (sent I c k')).1 (sPts_thirds c k' (sent I c k')).2]
      exact bigSep_congr fun j _ => if_neg (by omega)]
  icases Hb' with ⟨Hk', Hb⟩
  unfold sAny
  icases Hk' with ⟨%f, Hk'⟩
  iapply (wp_store 𝒱₀ (c : Thread nD τ) none Set.univ (m := sM) (r := sR k') (w := sent I c k') (Mk := Finset.univ) (hx := hx) (hm := hm)
    (S := (sB k').view.set) (f := f) (Finset.Subset.refl _)) $$ Hk'
  iintro Hp
  iapply Hk
  isplitr; · iexact HK
  isplitl [Hbar]; · iexact Hbar
  isplitl [Hs]; · iexact Hs
  isplitl [Hb Hp]
  · iapply Hb
    iapply (Entails.of_eq (sPts_of_write c k' f (sent I c k')))
    iexact Hp
  isplitl [Hr]; · iexact Hr
  isplitl [HO]; · iexact HO
  isplitl [Hin]; · iexact Hin
  iexact Hout

theorem step_stale {S' : sProp 𝕄} (k' : Fin 24) (hb : b ≤ stage k'.val) {hl : sM.view.LoadsAt (sR k').toLoadRect}
    {k : (Vec F S1x32x256 .f32) → Prog (TpuEff nD τ sig (Elt F) Λ₀ .tc) α} (hk : ∀ x, Runs c (St I K c s a b w w' fo) (k x) P S') :
    Runs c (St I K c s a b w w' fo) (.op (.load sM (sR k').toLoadRect hl) k) P S' := fun Q hQ => by
  unfold St
  iintro ⟨#HK, Hbar, Hs, Hb, Hr, HO, Hin, Hout⟩
  ihave Hb' := (bigSep_univ_update (Φ := fun k₁ => slotSt I c a b k₁) (Ψ := fun k₁ => slotSt I c a b k₁) k' (fun k₁ h => rfl)) $$ Hb
  rw [show slotSt I c a b k' = sAny c k' from by unfold slotSt; rw [if_neg (by omega)]]
  icases Hb' with ⟨Hk', Hb⟩
  unfold sAny
  icases Hk' with ⟨%f, Hk'⟩
  iapply (wp_load_rect 𝒱₀ (c : Thread nD τ) none Set.univ (m := sM) (r := sR k') (hl := hl)
    (S := (sB k').view.set) (f := f) (Finset.Subset.refl _)) $$ Hk'
  iintro Hp
  iapply (hk _ Q hQ)
  unfold St
  isplitr; · iexact HK
  isplitl [Hbar]; · iexact Hbar
  isplitl [Hs]; · iexact Hs
  isplitl [Hb Hp]
  · iapply Hb
    iexists f
    iexact Hp
  isplitl [Hr]; · iexact Hr
  isplitl [HO]; · iexact HO
  isplitl [Hin]; · iexact Hin
  iexact Hout

end Cert.Mlp

end

end
-- ==== Proof.Forms.lean ====
/-
The steps in the form in which the kernel's operations are printed: slots, semaphores and peers by their numbers.
-/
module

public import proofs.«01_k».proof.Proof.Steps

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Cell → ℕ) (c : Dev nD) {α : Type} {P : α → Prop}
  {s a b w w' : ℕ} {fo : (cc0_stg7_0 : Ref sig .tc).ty.Contents (Elt F)}

theorem run_signal {S' : sProp 𝕄} (hp : s < 6) {dev : Dev nD → ℕ} {hlt : dev c < nD} (hdev : ∀ d, dev d = (peer ⟨s, hp⟩ d).val)
    {k : PUnit → Prog (TpuEff nD τ sig (Elt F) Λ₀ .tc) α} (hk : Runs c (St I K c (s + 1) a b w w' fo) (k ⟨⟩) P S') :
    Runs c (St I K c s a b w w' fo) (semSignalWord (⟨dev c, hlt⟩ : Dev nD) barS 1#32 >>= k) P S' :=
  step_signal I K c ⟨s, hp⟩ _ (Fin.ext (hdev c)) hk

theorem run_bar {S' : sProp 𝕄} {k : PUnit → Prog (TpuEff nD τ sig (Elt F) Λ₀ .tc) α} (hs : s = 6) (hk : Runs c (St I K c 7 0 b 0 w' fo) (k ⟨⟩) P S') :
    Runs c (St I K c s 0 b 0 w' fo) (semWaitWord barS 6#32 >>= k) P S' := by
  subst hs
  exact step_bar I K c hk

theorem run_send {S' : sProp 𝕄} (n k' m : ℕ) {hn : n < 72} {hk' : k' < 24} {hm : m < 72} {dev : Dev nD → ℕ} {hlt : dev c < nD}
    (hdev : ∀ d, dev d = (peer (cls ⟨n, hn⟩) d).val) (ek : n / 3 = k') (em : (opp ⟨n, hn⟩).val = m) (ha : a = pos ⟨n, hn⟩) (hs : 7 ≤ s)
    (hb : stage k' < b) (hw : w ≤ a)
    {hsc : (rQ ⟨m, hm⟩ : Memref sig (Dev.tc (⟨dev c, hlt⟩ : Dev nD) : Thread nD τ).2.kind .vmem S32x256 .f32).view.ref.isScScratch = false}
    {hsrc : (sQ ⟨k', hk'⟩).view.WordExact} {hdst : (rQ ⟨m, hm⟩).view.WordExact}
    {hsem : DmaTarget.Typed .vmem (.dma (recvS ⟨m, hm⟩)) (.remote (Dev.tc (⟨dev c, hlt⟩ : Dev nD) : Thread nD τ) (rQ ⟨m, hm⟩) (.dma (sendS ⟨n, hn⟩)) hsc)}
    {k : PUnit → Prog (TpuEff nD τ sig (Elt F) Λ₀ .tc) α} (hk : Runs c (St I K c s (pos ⟨n, hn⟩ + 1) b w w' fo) (k ⟨⟩) P S') :
    Runs c (St I K c s a b w w' fo)
      (Prog.lift (.enqueueDma (sQ ⟨k', hk'⟩) (.remote (Dev.tc (⟨dev c, hlt⟩ : Dev nD) : Thread nD τ) (rQ ⟨m, hm⟩) (.dma (sendS ⟨n, hn⟩)) hsc) (.dma (recvS ⟨m, hm⟩)) hsrc hdst hsem)
        >>= k) P S' := by
  subst ek em ha
  exact step_send I K c ⟨n, hn⟩ _ (Fin.ext (hdev c)) hs hb hw hk

theorem run_sent {S' : sProp 𝕄} (n k' : ℕ) {hn : n < 72} {hk' : k' < 24} (ew : w = pos ⟨n, hn⟩) (hs : 6 ≤ s) (ha : w < a)
    {src : Memref sig .tc .vmem S32x256 .f32} {hsrc : src.view.WordExact} {hdst : (sQ ⟨k', hk'⟩).view.WordExact}
    {k : PUnit → Prog (TpuEff nD τ sig (Elt F) Λ₀ .tc) α} (hk : Runs c (St I K c s a b (pos ⟨n, hn⟩ + 1) w' fo) (k ⟨⟩) P S') :
    Runs c (St I K c s a b w w' fo) (Prog.lift (.waitDma2 (sendS ⟨n, hn⟩) src (sQ ⟨k', hk'⟩) hsrc hdst) >>= k) P S' := by
  subst ew
  exact step_sent I K c ⟨n, hn⟩ hs ha hk

theorem run_arrived {S' : sProp 𝕄} (m : ℕ) {hm : m < 72} (ew : w' = pos (opp ⟨m, hm⟩)) (hs : 6 ≤ s) (ha : 3 * stage (m / 3) + 3 ≤ a)
    {src : Memref sig .tc .vmem S32x256 .f32} {hsrc : src.view.WordExact} {hdst : (rQ ⟨m, hm⟩).view.WordExact}
    {k : PUnit → Prog (TpuEff nD τ sig (Elt F) Λ₀ .tc) α} (hk : Runs c (St I K c s a b w (pos (opp ⟨m, hm⟩) + 1) fo) (k ⟨⟩) P S') :
    Runs c (St I K c s a b w w' fo) (Prog.lift (.waitDma2 (recvS ⟨m, hm⟩) src (rQ ⟨m, hm⟩) hsrc hdst) >>= k) P S' := by
  subst ew
  obtain ⟨n, hn⟩ : ∃ n, opp n = ⟨m, hm⟩ := ⟨opp ⟨m, hm⟩, opp_opp _⟩
  have ha' : 3 * stage (n.val / 3) + 3 ≤ a := by rw [← opp_div n, hn]; exact ha
  revert hdst hk
  rw [← hn, opp_opp]
  intro hdst hk
  exact step_arrived I K c n hs ha' hk

theorem run_landed {S' : sProp 𝕄} (m : ℕ) {hm : m < 72} (hw : pos (opp ⟨m, hm⟩) < w') {hl : rM.view.LoadsAt (rR ⟨m, hm⟩).toLoadRect}
    {k : (Vec F S1x32x256 .f32) → Prog (TpuEff nD τ sig (Elt F) Λ₀ .tc) α} (hk : Runs c (St I K c s a b w w' fo) (k (landed I c ⟨m, hm⟩)) P S') :
    Runs c (St I K c s a b w w' fo) (Prog.lift (.load rM (rR ⟨m, hm⟩).toLoadRect hl) >>= k) P S' := by
  obtain ⟨n, hn⟩ : ∃ n, opp n = ⟨m, hm⟩ := ⟨opp ⟨m, hm⟩, opp_opp _⟩
  revert hl hk
  rw [← hn]
  rw [← hn, opp_opp] at hw
  intro hl hk
  exact step_landed I K c n hw hk

theorem run_stale {S' : sProp 𝕄} (k' : ℕ) {hk' : k' < 24} (hb : b ≤ stage k') {hl : sM.view.LoadsAt (sR ⟨k', hk'⟩).toLoadRect}
    {k : (Vec F S1x32x256 .f32) → Prog (TpuEff nD τ sig (Elt F) Λ₀ .tc) α} (hk : ∀ x, Runs c (St I K c s a b w w' fo) (k x) P S') :
    Runs c (St I K c s a b w w' fo) (Prog.lift (.load sM (sR ⟨k', hk'⟩).toLoadRect hl) >>= k) P S' :=
  step_stale I K c ⟨k', hk'⟩ hb hk

theorem run_fill {S' : sProp 𝕄} (k' : ℕ) {hk' : k' < 24} (eb : b = stage k') (ha : a ≤ 3 * b) {v : Vec F S1x32x256 .f32} (hv : v = sent I c ⟨k', hk'⟩) {hx} {hm}
    {k : PUnit → Prog (TpuEff nD τ sig (Elt F) Λ₀ .tc) α} (hk : Runs c (St I K c s a (stage k' + 1) w w' fo) (k ⟨⟩) P S') :
    Runs c (St I K c s a b w w' fo) (Prog.lift (.store sM (sR ⟨k', hk'⟩) v Finset.univ hx hm) >>= k) P S' := by
  subst eb hv
  exact step_fill I K c ⟨k', hk'⟩ ha hk

/-! ## The inputs and the result -/

/-- One input buffer out of the seven, and back. -/
theorem inputs_at (i : Fin 7) : inputs I c ⊢ iprop(held c (stgRef i) ((I c).val i) ∗ (held c (stgRef i) ((I c).val i) -∗ inputs I c)) := by
  unfold inputs
  exact bigSep_univ_update (Φ := fun j => held c (stgRef j) ((I c).val j)) (Ψ := fun j => held c (stgRef j) ((I c).val j)) i (fun j h => rfl)

/-- A load of an input buffer. -/
theorem run_input {S' : sProp 𝕄} {cs : CoreSpace} {s₁ : Shape} {e : EltTy} {m : Memref sig .tc cs s₁ e} {r : LoadRect s₁} {f : Buf (Elt F) (m.view.loc (c : Thread nD τ))}
    {x : r.shape.Idx → Elt F e} (hx : m.view.readAt (Elt F) r f = x)
    (hin : inputs I c ⊢ iprop((m.view.loc (c : Thread nD τ) ↦{fullShare} f) ∗ ((m.view.loc (c : Thread nD τ) ↦{fullShare} f) -∗ inputs I c)))
    {hl : m.view.LoadsAt r} {k : (r.shape.Idx → Elt F e) → Prog (TpuEff nD τ sig (Elt F) Λ₀ .tc) α} (hk : Runs c (St I K c s a b w w' fo) (k x) P S') :
    Runs c (St I K c s a b w w' fo) (Prog.lift (.load m r hl) >>= k) P S' := fun Q hQ => by
  subst hx
  show St I K c s a b w w' fo ⊢ wp frame (wpE (defs₀ (F := F)) 𝒱₀ (c : Thread nD τ) none) Set.univ (.op (.load m r hl) k) Q
  unfold St
  iintro ⟨#HK, Hbar, Hs, Hb, Hr, HO, Hin, Hout⟩
  ihave Hin' := hin $$ Hin
  icases Hin' with ⟨Hi, Hin⟩
  iapply (wp_load 𝒱₀ (c : Thread nD τ) none Set.univ (m := m) (r := r) (hl := hl) (Finset.subset_univ _)) $$ Hi
  iintro Hi
  iapply (hk Q hQ)
  unfold St
  isplitr; · iexact HK
  isplitl [Hbar]; · iexact Hbar
  isplitl [Hs]; · iexact Hs
  isplitl [Hb]; · iexact Hb
  isplitl [Hr]; · iexact Hr
  isplitl [HO]; · iexact HO
  isplitl [Hin Hi]; · iapply Hin; iexact Hi
  iexact Hout

theorem zeros : (![0, 0] : Fin 2 → ℕ) = fun _ => 0 := funext fun a => by fin_cases a <;> rfl

theorem run_x {S' : sProp 𝕄} {inb : ∀ a, (![0, 0] : Fin 2 → ℕ) a + S128x128.size a ≤ S128x128.size a} {hl : (Memref.whole cc0_stg0_0 : Memref sig .tc .vmem S128x128 .f32).view.LoadsAt (Rect.unit (s := S128x128) ![0, 0] S128x128.size inb).toLoadRect}
    {k : Vec F S128x128 .f32 → Prog (TpuEff nD τ sig (Elt F) Λ₀ .tc) α} (hk : Runs c (St I K c s a b w w' fo) (k (I c).x) P S') :
    Runs c (St I K c s a b w w' fo) (Prog.lift (.load (Memref.whole cc0_stg0_0 : Memref sig .tc .vmem S128x128 .f32) (Rect.unit (s := S128x128) ![0, 0] S128x128.size inb).toLoadRect hl) >>= k) P S' :=
  run_input I K c (Memref.readAt_unit_zero (Elt F) cc0_stg0_0 zeros _ _) (inputs_at I c 0) hk

theorem run_wi0 {S' : sProp 𝕄} {inb : ∀ a, (![0, 0] : Fin 2 → ℕ) a + S128x256.size a ≤ S128x256.size a} {hl : (Memref.whole cc0_stg1_0 : Memref sig .tc .vmem S128x256 .f32).view.LoadsAt (Rect.unit (s := S128x256) ![0, 0] S128x256.size inb).toLoadRect}
    {k : Vec F S128x256 .f32 → Prog (TpuEff nD τ sig (Elt F) Λ₀ .tc) α} (hk : Runs c (St I K c s a b w w' fo) (k (I c).wi0) P S') :
    Runs c (St I K c s a b w w' fo) (Prog.lift (.load (Memref.whole cc0_stg1_0 : Memref sig .tc .vmem S128x256 .f32) (Rect.unit (s := S128x256) ![0, 0] S128x256.size inb).toLoadRect hl) >>= k) P S' :=
  run_input I K c (Memref.readAt_unit_zero (Elt F) cc0_stg1_0 zeros _ _) (inputs_at I c 1) hk

theorem run_wo0 {S' : sProp 𝕄} {inb : ∀ a, (![0, 0] : Fin 2 → ℕ) a + S256x128.size a ≤ S256x128.size a} {hl : (Memref.whole cc0_stg2_0 : Memref sig .tc .vmem S256x128 .f32).view.LoadsAt (Rect.unit (s := S256x128) ![0, 0] S256x128.size inb).toLoadRect}
    {k : Vec F S256x128 .f32 → Prog (TpuEff nD τ sig (Elt F) Λ₀ .tc) α} (hk : Runs c (St I K c s a b w w' fo) (k (I c).wo0) P S') :
    Runs c (St I K c s a b w w' fo) (Prog.lift (.load (Memref.whole cc0_stg2_0 : Memref sig .tc .vmem S256x128 .f32) (Rect.unit (s := S256x128) ![0, 0] S256x128.size inb).toLoadRect hl) >>= k) P S' :=
  run_input I K c (Memref.readAt_unit_zero (Elt F) cc0_stg2_0 zeros _ _) (inputs_at I c 2) hk

theorem run_wi1 {S' : sProp 𝕄} {inb : ∀ a, (![0, 0] : Fin 2 → ℕ) a + S128x256.size a ≤ S128x256.size a} {hl : (Memref.whole cc0_stg3_0 : Memref sig .tc .vmem S128x256 .f32).view.LoadsAt (Rect.unit (s := S128x256) ![0, 0] S128x256.size inb).toLoadRect}
    {k : Vec F S128x256 .f32 → Prog (TpuEff nD τ sig (Elt F) Λ₀ .tc) α} (hk : Runs c (St I K c s a b w w' fo) (k (I c).wi1) P S') :
    Runs c (St I K c s a b w w' fo) (Prog.lift (.load (Memref.whole cc0_stg3_0 : Memref sig .tc .vmem S128x256 .f32) (Rect.unit (s := S128x256) ![0, 0] S128x256.size inb).toLoadRect hl) >>= k) P S' :=
  run_input I K c (Memref.readAt_unit_zero (Elt F) cc0_stg3_0 zeros _ _) (inputs_at I c 3) hk

theorem run_wo1 {S' : sProp 𝕄} {inb : ∀ a, (![0, 0] : Fin 2 → ℕ) a + S256x128.size a ≤ S256x128.size a} {hl : (Memref.whole cc0_stg4_0 : Memref sig .tc .vmem S256x128 .f32).view.LoadsAt (Rect.unit (s := S256x128) ![0, 0] S256x128.size inb).toLoadRect}
    {k : Vec F S256x128 .f32 → Prog (TpuEff nD τ sig (Elt F) Λ₀ .tc) α} (hk : Runs c (St I K c s a b w w' fo) (k (I c).wo1) P S') :
    Runs c (St I K c s a b w w' fo) (Prog.lift (.load (Memref.whole cc0_stg4_0 : Memref sig .tc .vmem S256x128 .f32) (Rect.unit (s := S256x128) ![0, 0] S256x128.size inb).toLoadRect hl) >>= k) P S' :=
  run_input I K c (Memref.readAt_unit_zero (Elt F) cc0_stg4_0 zeros _ _) (inputs_at I c 4) hk

theorem run_wi2 {S' : sProp 𝕄} {inb : ∀ a, (![0, 0] : Fin 2 → ℕ) a + S128x256.size a ≤ S128x256.size a} {hl : (Memref.whole cc0_stg5_0 : Memref sig .tc .vmem S128x256 .f32).view.LoadsAt (Rect.unit (s := S128x256) ![0, 0] S128x256.size inb).toLoadRect}
    {k : Vec F S128x256 .f32 → Prog (TpuEff nD τ sig (Elt F) Λ₀ .tc) α} (hk : Runs c (St I K c s a b w w' fo) (k (I c).wi2) P S') :
    Runs c (St I K c s a b w w' fo) (Prog.lift (.load (Memref.whole cc0_stg5_0 : Memref sig .tc .vmem S128x256 .f32) (Rect.unit (s := S128x256) ![0, 0] S128x256.size inb).toLoadRect hl) >>= k) P S' :=
  run_input I K c (Memref.readAt_unit_zero (Elt F) cc0_stg5_0 zeros _ _) (inputs_at I c 5) hk

theorem run_wo2 {S' : sProp 𝕄} {inb : ∀ a, (![0, 0] : Fin 2 → ℕ) a + S256x128.size a ≤ S256x128.size a} {hl : (Memref.whole cc0_stg6_0 : Memref sig .tc .vmem S256x128 .f32).view.LoadsAt (Rect.unit (s := S256x128) ![0, 0] S256x128.size inb).toLoadRect}
    {k : Vec F S256x128 .f32 → Prog (TpuEff nD τ sig (Elt F) Λ₀ .tc) α} (hk : Runs c (St I K c s a b w w' fo) (k (I c).wo2) P S') :
    Runs c (St I K c s a b w w' fo) (Prog.lift (.load (Memref.whole cc0_stg6_0 : Memref sig .tc .vmem S256x128 .f32) (Rect.unit (s := S256x128) ![0, 0] S256x128.size inb).toLoadRect hl) >>= k) P S' :=
  run_input I K c (Memref.readAt_unit_zero (Elt F) cc0_stg6_0 zeros _ _) (inputs_at I c 6) hk

abbrev oM : Memref sig .tc .vmem S128x128 .f32 := Memref.whole cc0_stg7_0

/-- The result after the rows from `r` on have been written. -/
def outW (r : ℕ) (inb : ∀ a, (![r, 0] : Fin 2 → ℕ) a + S32x128.size a ≤ S128x128.size a) (f : (cc0_stg7_0 : Ref sig .tc).ty.Contents (Elt F)) :
    (cc0_stg7_0 : Ref sig .tc).ty.Contents (Elt F) :=
  (oM.access (Rect.unit (s := S128x128) ![r, 0] S32x128.size inb) : View sig .tc _ _ _).write (Elt F) f (outChunk I (r / 32) c) Finset.univ

theorem run_peek {S' : sProp 𝕄} {r : Rect S128x128} {hl : oM.view.LoadsAt r.toLoadRect}
    {k : (r.shape.Idx → Elt F .f32) → Prog (TpuEff nD τ sig (Elt F) Λ₀ .tc) α} (hk : ∀ x, Runs c (St I K c s a b w w' fo) (k x) P S') :
    Runs c (St I K c s a b w w' fo) (Prog.lift (.load oM r.toLoadRect hl) >>= k) P S' := fun Q hQ => by
  show St I K c s a b w w' fo ⊢ wp frame (wpE (defs₀ (F := F)) 𝒱₀ (c : Thread nD τ) none) Set.univ (.op (.load oM r.toLoadRect hl) k) Q
  unfold St
  iintro ⟨#HK, Hbar, Hs, Hb, Hr, HO, Hin, Hout⟩
  unfold held
  iapply (wp_load 𝒱₀ (c : Thread nD τ) none Set.univ (m := oM) (r := r.toLoadRect) (hl := hl) (Finset.subset_univ _)) $$ Hout
  iintro Hout
  iapply (hk _ Q hQ)
  unfold St held
  isplitr; · iexact HK
  isplitl [Hbar]; · iexact Hbar
  isplitl [Hs]; · iexact Hs
  isplitl [Hb]; · iexact Hb
  isplitl [Hr]; · iexact Hr
  isplitl [HO]; · iexact HO
  isplitl [Hin]; · iexact Hin
  iexact Hout

theorem run_put {S' : sProp 𝕄} (r : ℕ) {inb : ∀ a, (![r, 0] : Fin 2 → ℕ) a + S32x128.size a ≤ S128x128.size a} {v : Vec F S32x128 .f32} (hv : v = outChunk I (r / 32) c) {hx} {hm}
    {k : PUnit → Prog (TpuEff nD τ sig (Elt F) Λ₀ .tc) α} (hk : Runs c (St I K c s a b w w' (outW I c r inb fo)) (k ⟨⟩) P S') :
    Runs c (St I K c s a b w w' fo) (Prog.lift (.store oM (Rect.unit (s := S128x128) ![r, 0] S32x128.size inb) v Finset.univ hx hm) >>= k) P S' :=
  Runs.step (e := .store oM (Rect.unit (s := S128x128) ![r, 0] S32x128.size inb) v Finset.univ hx hm) hk fun Q => by
  subst hv
  unfold St
  iintro ⟨#HK, Hbar, Hs, Hb, Hr, HO, Hin, Hout⟩ Hk
  unfold held
  iapply (wp_store 𝒱₀ (c : Thread nD τ) none Set.univ (m := oM) (r := Rect.unit (s := S128x128) ![r, 0] S32x128.size inb) (w := outChunk I (r / 32) c) (Mk := Finset.univ)
    (hx := hx) (hm := hm) (Finset.subset_univ _)) $$ Hout
  iintro Hout
  iapply Hk
  isplitr; · iexact HK
  isplitl [Hbar]; · iexact Hbar
  isplitl [Hs]; · iexact Hs
  isplitl [Hb]; · iexact Hb
  isplitl [Hr]; · iexact Hr
  isplitl [HO]; · iexact HO
  isplitl [Hin]; · iexact Hin
  iexact Hout

end Cert.Mlp

end

end
-- ==== Proof.Body.lean ====
/-
One device's run of the whole kernel, operation by operation.
-/
module

public import proofs.«01_k».proof.Proof.Forms

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Cell → ℕ) (c : Dev nD) {fo : (cc0_stg7_0 : Ref sig .tc).ty.Contents (Elt F)}

/-- A sequence in a sequence. -/
theorem Runs.assoc {α β γ : Type} {P : γ → Prop} {S S' : sProp 𝕄} {p : Prog (TpuEff nD τ sig (Elt F) Λ₀ .tc) α} {f : α → Prog (TpuEff nD τ sig (Elt F) Λ₀ .tc) β} {k : β → Prog (TpuEff nD τ sig (Elt F) Λ₀ .tc) γ}
    (h : Runs c S (p >>= fun x => f x >>= k) P S') : Runs c S (p >>= f >>= k) P S' := by
  rw [bind_assoc]; exact h

/-- A value already known. -/
theorem Runs.unit {α β : Type} {P : β → Prop} {S S' : sProp 𝕄} {x : α} {k : α → Prog (TpuEff nD τ sig (Elt F) Λ₀ .tc) β}
    (h : Runs c S (k x) P S') : Runs c S (pure x >>= k) P S' := by
  rw [pure_bind]; exact h

/-- A program of one operation. -/
theorem Runs.last {α : Type} {P : α → Prop} {S S' : sProp 𝕄} {e : TpuEff nD τ sig (Elt F) Λ₀ .tc α} (h : Runs c S (Prog.lift e >>= pure) P S') : Runs c S (Prog.lift e) P S' := h

/-- The rows of the result the kernel writes for chunk `q` lie inside it. -/
theorem inbO (q : ℕ) (h : q < 4) : ∀ a, (![32 * q, 0] : Fin 2 → ℕ) a + S32x128.size a ≤ S128x128.size a := by
  intro a
  match a with
  | 0 => show 32 * q + 32 ≤ 128; omega
  | 1 => show 0 + 128 ≤ 128; omega

/-- The result after its four chunks have been written. -/
def outAll (f : (cc0_stg7_0 : Ref sig .tc).ty.Contents (Elt F)) : (cc0_stg7_0 : Ref sig .tc).ty.Contents (Elt F) :=
  outW I c 96 (inbO 3 (by decide)) (outW I c 64 (inbO 2 (by decide)) (outW I c 32 (inbO 1 (by decide)) (outW I c 0 (inbO 0 (by decide)) f)))

set_option maxHeartbeats 40000000 in
/-- The kernel runs on device `c`, from nothing sent to everything sent, received and written. -/
theorem body_runs : Runs c (St I K c 0 0 0 0 0 fo) (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3)
    (fun _ => True) (St I K c 7 72 24 72 72 (outAll I c fo)) := by
  dsimp only [cc0_body_eq_skeleton, cc0_body_skel, k0_part84_eq_skeleton, k0_part84_skel]
  refine Runs.assoc c (Runs.bind (P := fun v => v.1 = c) (S₁ := St I K c 0 0 0 0 0 fo) ?_ ?_)
  · dsimp only [k0_part1_eq_skeleton, k0_part1_skel]
    exact Runs.deviceId (Runs.ret rfl)
  rintro ⟨d, v19, v32, v33, v36, v37⟩ hd
  obtain rfl : d = c := hd
  refine Runs.assoc d (Runs.bind (P := fun _ => True) (S₁ := St I K d 0 0 0 0 0 fo) ?_ ?_)
  · dsimp only [k0_part2_eq_skeleton, k0_part2_skel]
    exact Runs.ret trivial
  rintro ⟨v40, v47, v55, v72, v73, w73, v74⟩ -
  refine Runs.assoc d (Runs.bind (P := fun v => v.2.2.1 = SemArray.scalar (sig.barrier 0 rfl)) (S₁ := St I K d 1 0 0 0 0 fo) ?_ ?_)
  · dsimp only [k0_part3_eq_skeleton, k0_part3_skel]
    exact run_signal I K d (by decide) (by decide +kernel) (Runs.ret rfl)
  rintro ⟨v89, v106, v107, v110, w60⟩ hv
  obtain rfl : v107 = SemArray.scalar (sig.barrier 0 rfl) := hv
  repeat with_reducible first
    | exact Runs.ret trivial
    | refine run_signal I K d (by decide) (by decide +kernel) ?_
    | refine run_bar I K d (by decide) ?_
    | refine run_sent I K d _ _ (hn := by decide) (hk' := by decide) (by decide) (by decide) (by decide) ?_
    | refine run_arrived I K d _ (hm := by decide) (by decide) (by decide) (by decide) ?_
    | refine run_landed I K d _ (hm := by decide) (by decide) ?_
    | refine run_stale I K d _ (hk' := by decide) (by decide) fun x => ?_
    | refine run_fill I K d _ (hk' := by decide) (by decide) (by decide) (by with_unfolding_all rfl) ?_
    | refine run_send I K d _ _ _ (hn := by decide) (hk' := by decide) (hm := by decide) (by decide +kernel) (by decide) (by decide) (by decide) (by decide) (by decide) (by decide) ?_
    | refine run_x I K d ?_
    | refine run_wi0 I K d ?_
    | refine run_wo0 I K d ?_
    | refine run_wi1 I K d ?_
    | refine run_wo1 I K d ?_
    | refine run_wi2 I K d ?_
    | refine run_wo2 I K d ?_
    | refine run_peek I K d fun x => ?_
    | refine run_put I K d _ (by with_unfolding_all rfl) ?_
    | refine Runs.unit d ?_
    | refine Runs.assoc d ?_
    | dsimp only [k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel]
    | refine Runs.last d ?_
  have e₁ : pos (⟨59, by decide⟩ : Fin 72) + 1 = 72 := by decide
  have e₂ : pos (opp (⟨59, by decide⟩ : Fin 72)) + 1 = 72 := by decide
  have e₃ : stage 19 + 1 = 24 := by decide
  rw [e₁, e₂, e₃]
  exact Runs.ret trivial

end Cert.Mlp

end

end
-- ==== Proof.Ends.lean ====
/-
The ends of a device's run: what it starts from and what it leaves.

From what a launch deals a device, the state before the first operation; from the state after the last one, the
buffers and semaphores back again, and the result, whose every row has been written.
-/
module

public import proofs.«01_k».proof.Proof.Body
public import Idealize.ShloMosaic.Lib.WritesUnit

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Cell → ℕ) (c : Dev nD)

/-! ## The result -/

/-- The pieces of the result, the last written first. -/
def outPieces : List (View.Piece (Elt F) S128x128 .f32) :=
  [⟨Rect.unit (s := S128x128) ![96, 0] S32x128.size (inbO 3 (by decide)), outChunk I 3 c⟩,
   ⟨Rect.unit (s := S128x128) ![64, 0] S32x128.size (inbO 2 (by decide)), outChunk I 2 c⟩,
   ⟨Rect.unit (s := S128x128) ![32, 0] S32x128.size (inbO 1 (by decide)), outChunk I 1 c⟩,
   ⟨Rect.unit (s := S128x128) ![0, 0] S32x128.size (inbO 0 (by decide)), outChunk I 0 c⟩]

theorem outAll_pieces (f : (cc0_stg7_0 : Ref sig .tc).ty.Contents (Elt F)) (i : S128x128.Idx) :
    outAll I c f i = oM.view.read (Elt F) (oM.view.writes (Elt F) f (outPieces I c)) i := rfl

/-- Row `x` of chunk `q` is row `32 q + x` of the result. -/
theorem outAll_at (f : (cc0_stg7_0 : Ref sig .tc).ty.Contents (Elt F)) (q : ℕ) (hq : q < 4) (i : S128x128.Idx) (x : S32x128.Idx)
    (h0 : (i (0 : Fin 2)).val = 32 * q + (x (0 : Fin 2)).val) (h1 : (i (1 : Fin 2)).val = (x (1 : Fin 2)).val) :
    outAll I c f i = outChunk I q c x := by
  have hx : (x (0 : Fin 2)).val < 32 := (x (0 : Fin 2)).isLt
  rw [outAll_pieces]
  unfold outPieces
  obtain rfl | rfl | rfl | rfl : q = 0 ∨ q = 1 ∨ q = 2 ∨ q = 3 := by omega
  · refine (View.read_writes_cons_rows_of_not_mem oM.view f (o := 96) (W := 32) _ _ _ i rfl rfl (by omega)).trans ?_
    refine (View.read_writes_cons_rows_of_not_mem oM.view f (o := 64) (W := 32) _ _ _ i rfl rfl (by omega)).trans ?_
    refine (View.read_writes_cons_rows_of_not_mem oM.view f (o := 32) (W := 32) _ _ _ i rfl rfl (by omega)).trans ?_
    exact View.read_writes_cons_rows_of_mem oM.view f (o := 0) _ _ _ i x rfl (by omega) h1
  · refine (View.read_writes_cons_rows_of_not_mem oM.view f (o := 96) (W := 32) _ _ _ i rfl rfl (by omega)).trans ?_
    refine (View.read_writes_cons_rows_of_not_mem oM.view f (o := 64) (W := 32) _ _ _ i rfl rfl (by omega)).trans ?_
    exact View.read_writes_cons_rows_of_mem oM.view f (o := 32) _ _ _ i x rfl (by omega) h1
  · refine (View.read_writes_cons_rows_of_not_mem oM.view f (o := 96) (W := 32) _ _ _ i rfl rfl (by omega)).trans ?_
    exact View.read_writes_cons_rows_of_mem oM.view f (o := 64) _ _ _ i x rfl (by omega) h1
  · exact View.read_writes_cons_rows_of_mem oM.view f (o := 96) _ _ _ i x rfl (by omega) h1

/-- The whole result of device `c`. -/
def outAt : FVec F S128x128 .f32 := outAll I c (fun _ => (Scalar.ofBits .f32 0x00000000#32 : F .f32))

/-- What was in the result's buffer before does not matter. -/
theorem outAll_eq (f : (cc0_stg7_0 : Ref sig .tc).ty.Contents (Elt F)) : outAll I c f = outAt I c := by
  funext i
  have h0 : (i (0 : Fin 2)).val < 128 := (i (0 : Fin 2)).isLt
  let x : S32x128.Idx := fun a => match a with
    | 0 => ⟨(i (0 : Fin 2)).val % 32, Nat.mod_lt _ (by decide)⟩
    | 1 => ⟨(i (1 : Fin 2)).val, (i (1 : Fin 2)).isLt⟩
  have hd := Nat.div_add_mod (i (0 : Fin 2)).val 32
  have e0 : (i (0 : Fin 2)).val = 32 * ((i (0 : Fin 2)).val / 32) + (x (0 : Fin 2)).val := hd.symm
  exact (outAll_at I c f _ (by omega) i x e0 rfl).trans (outAll_at I c _ _ (by omega) i x e0 rfl).symm

/-! ## Splitting by class -/

theorem bigSep_ite_at (p : Fin 6) (X : sProp 𝕄) : (bigSep Finset.univ fun i : Fin 6 => if p = i then X else iprop(emp)) = X := by
  have h := bigSep_filter (Finset.univ : Finset (Fin 6)) (fun i => p = i) (fun _ => X)
  rw [Finset.filter_eq, if_pos (Finset.mem_univ p), bigSep_singleton] at h
  exact h.symm

/-- A separating conjunction over the exchanges is one over the classes of those over each class. -/
theorem by_class (f : Fin 72 → Fin 6) (Φ : Fin 72 → sProp 𝕄) :
    bigSep Finset.univ Φ = bigSep Finset.univ fun p : Fin 6 => bigSep (Finset.univ.filter fun n => f n = p) Φ := by
  have h1 : (fun p : Fin 6 => bigSep (Finset.univ.filter fun n => f n = p) Φ) = fun p => bigSep Finset.univ fun n => if f n = p then Φ n else iprop(emp) :=
    funext fun p => bigSep_filter _ _ _
  rw [h1, ← bigSep_univ_prod (fun x : Fin 6 × Fin 72 => if f x.2 = x.1 then Φ x.2 else iprop(emp)),
    bigSep_univ_equiv (Equiv.prodComm (Fin 72) (Fin 6)), bigSep_univ_prod]
  exact congrArg (bigSep Finset.univ) (funext fun n => (bigSep_ite_at (f n) (Φ n)).symm)

def backEquiv : Fin 6 ≃ Fin 6 := ⟨back, back, back_back, back_back⟩

/-- The receive slots are what is handed over to the six peers. -/
theorem handed : (bigSep Finset.univ fun n => rAny (F := F) c n) = bigSep Finset.univ fun p => give (F := F) c p := by
  rw [bigSep_univ_equiv oppEquiv, by_class cls, bigSep_univ_equiv backEquiv]
  rfl

/-! ## The start -/

/-- The rights to pay that a device holds: into its peers' barriers, into its own semaphores as a sender, and into its
    peers' as receivers. -/
def payToks : sProp 𝕄 :=
  iprop((bigSep Finset.univ fun p : Fin 6 => dutyTok ER (barCell (peer p c)) 0 (back p))
    ∗ (bigSep Finset.univ fun n : Fin 72 => dutyTok ER (sendCell c n) 0 0)
    ∗ (bigSep Finset.univ fun n : Fin 72 => dutyTok ER (recvCell (peer (cls n) c) (opp n)) 0 0))

/-- The credits of the waits to come. -/
def startCreds : sProp 𝕄 :=
  iprop(cred (tallyAt (barCell c) () 6) ∗ (bigSep Finset.univ fun n : Fin 72 => cred (tallyAt (recvCell c n) () N)))

/-- That each of its cells stands at its first round. -/
def startPos : sProp 𝕄 := bigSep Finset.univ fun k : Cell => atPos ER (kcell (c, k)) 0 ∅ 0

theorem startPos_eq : startPos (F := F) c = iprop(atPos ER (barCell c) 0 ∅ 0
    ∗ (bigSep Finset.univ fun n : Fin 72 => atPos ER (sendCell c n) 0 ∅ 0) ∗ (bigSep Finset.univ fun n : Fin 72 => atPos ER (recvCell c n) 0 ∅ 0)) := by
  unfold startPos
  rw [bigSep_univ_sum, bigSep_univ_sum, Finset.univ_unique, bigSep_singleton]
  rfl

/-- A buffer with contents of no interest. -/
def some' (b : Ref sig .tc) : sProp 𝕄 := iprop(∃ f : Buf (Elt F) ((c : Thread nD τ).loc b), ((c : Thread nD τ).loc b) ↦{fullShare} f)

theorem start_bar (hP : bigSep Finset.univ (fun n => rAny (F := F) c n) = bigSep Finset.univ fun p => give (F := F) c p) :
    iprop(atPos ER (barCell c) 0 ∅ 0 ∗ cred (tallyAt (barCell c) () 6) ∗ (bigSep Finset.univ fun p : Fin 6 => dutyTok ER (barCell (peer p c)) 0 (back p))
      ∗ bigSep Finset.univ fun n => rAny (F := F) c n) ⊢ barSt (F := F) c 0 := by
  unfold barSt
  rw [if_pos (Nat.zero_le 6), hP, bigSep_congr (fun p _ => if_pos (Nat.zero_le (p : Fin 6).val)), bigSep_sep']

theorem start_send : iprop((bigSep Finset.univ fun n : Fin 72 => atPos ER (sendCell c n) 0 ∅ 0) ∗ (bigSep Finset.univ fun n : Fin 72 => dutyTok ER (sendCell c n) 0 0)
      ∗ (bigSep Finset.univ fun n : Fin 72 => dutyTok ER (recvCell (peer (cls n) c) (opp n)) 0 0)) ⊢ bigSep Finset.univ fun n => sendSt I c 0 0 0 n := by
  rw [← bigSep_sep', ← bigSep_sep']
  refine bigSep_mono fun n _ => ?_
  unfold sendSt
  rw [if_neg (Nat.not_lt_zero _), if_neg (Nat.not_lt_zero _), if_neg (by decide)]
  show iprop(atPos ER (sendCell c n) 0 ∅ 0 ∗ dutyTok ER (sendCell c n) 0 0 ∗ dutyTok ER (recvCell (peer (cls n) c) (opp n)) 0 0)
    ⊢ (iprop(atPos ER (sendCell c n) 0 ∅ 0 ∗ dutyTok ER (sendCell c n) 0 0 ∗ dutyTok ER (recvCell (peer (cls n) c) (opp n)) 0 0 ∗ emp) : sProp 𝕄)
  iintro ⟨H1, H2, H3⟩
  isplitl [H1]; · iexact H1
  isplitl [H2]; · iexact H2
  isplitl [H3]; · iexact H3
  iempintro

theorem start_slot : (bigSep Finset.univ fun k => sAny (F := F) c k) ⊢ bigSep Finset.univ fun k => slotSt I c 0 0 k := by
  refine bigSep_mono fun k _ => ?_
  unfold slotSt
  rw [if_neg (Nat.not_lt_zero _)]
  exact .refl _

theorem start_recv : iprop((bigSep Finset.univ fun n : Fin 72 => atPos ER (recvCell c n) 0 ∅ 0) ∗ (bigSep Finset.univ fun n : Fin 72 => cred (tallyAt (recvCell c n) () N)))
    ⊢ bigSep Finset.univ fun n => recvSt I c 0 n := by
  rw [← bigSep_sep', bigSep_univ_equiv oppEquiv]
  refine bigSep_mono fun n _ => ?_
  unfold recvSt
  rw [if_neg (Nat.not_lt_zero _)]
  exact .refl _

/-- The state before the first operation. -/
theorem enter (fo : (cc0_stg7_0 : Ref sig .tc).ty.Contents (Elt F)) :
    iprop(known I K ∗ startPos c ∗ payToks c ∗ startCreds c ∗ some' c cc0_scratch0 ∗ some' c cc0_scratch1
      ∗ (∃ W, owes (c : Thread nD τ) (owed c 0 0) W) ∗ inputs I c ∗ held c cc0_stg7_0 fo) ⊢ St I K c 0 0 0 0 0 fo := by
  rw [startPos_eq]
  unfold payToks startCreds some' St
  iintro ⟨#HK, ⟨P1, P2, P3⟩, ⟨T1, T2, T3⟩, ⟨C1, C2⟩, S0, S1, HO, Hin, Hout⟩
  isplitr; · iexact HK
  ihave S0 := (s_split c) $$ S0
  ihave S1 := (r_split c) $$ S1
  isplitl [P1 C1 T1 S1]
  · iapply (start_bar c (handed c))
    isplitl [P1]; · iexact P1
    isplitl [C1]; · iexact C1
    isplitl [T1]; · iexact T1
    iexact S1
  isplitl [P2 T2 T3]
  · iapply (start_send I c)
    isplitl [P2]; · iexact P2
    isplitl [T2]; · iexact T2
    iexact T3
  isplitl [S0]
  · iapply (start_slot I c); iexact S0
  isplitl [P3 C2]
  · iapply (start_recv I c)
    isplitl [P3]; · iexact P3
    iexact C2
  isplitl [HO]; · iexact HO
  isplitl [Hin]; · iexact Hin
  iexact Hout

/-! ## The end -/

/-- Exchange `n` as its send slot and its number within the stage. -/
def thirdsEquiv : Fin 24 × Fin 3 ≃ Fin 72 where
  toFun x := ⟨3 * x.1.val + x.2.val, by omega⟩
  invFun n := (slotOf n, ⟨n.val % 3, Nat.mod_lt _ (by decide)⟩)
  left_inv x := Prod.ext (Fin.ext (by show (3 * x.1.val + x.2.val) / 3 = x.1.val; omega)) (Fin.ext (by show (3 * x.1.val + x.2.val) % 3 = x.2.val; omega))
  right_inv n := Fin.ext (by show 3 * (n.val / 3) + n.val % 3 = n.val; omega)

theorem sendPay_thirds (k : Fin 24) (j : Fin 3) : sendPay I c (thirdsEquiv (k, j)) = sPts c k (Ring.shares3 fullShare j) (sent I c k) := by
  have e := thirdsEquiv.left_inv (k, j)
  have e1 : slotOf (thirdsEquiv (k, j)) = k := congrArg Prod.fst e
  have e2 : (⟨(thirdsEquiv (k, j)).val % 3, Nat.mod_lt _ (by decide)⟩ : Fin 3) = j := congrArg Prod.snd e
  unfold sendPay
  rw [e1, e2]

/-- The returned thirds are the send buffer. -/
theorem end_slot : (bigSep Finset.univ fun n => sendPay I c n) ⊢ some' (F := F) c cc0_scratch0 := by
  rw [bigSep_univ_equiv thirdsEquiv, bigSep_univ_prod]
  refine .trans (bigSep_mono fun k _ => ?_) (s_join c)
  rw [bigSep_congr fun j _ => sendPay_thirds I c k j]
  refine (sPts_thirds c k (sent I c k)).2.trans ?_
  unfold sPts sAny
  iintro H
  iexists _
  iexact H

theorem end_recv : (bigSep Finset.univ fun n => recvPay I c (opp n)) ⊢ some' (F := F) c cc0_scratch1 := by
  rw [show (bigSep Finset.univ fun n => recvPay I c (opp n)) = bigSep Finset.univ fun n => recvPay I c n from (bigSep_univ_equiv oppEquiv _).symm]
  refine .trans (bigSep_mono fun n _ => ?_) (r_join c)
  show rPts c n (landed I c n) ⊢ rAny c n
  unfold rPts rAny
  iintro H
  iexists _
  iexact H

/-- The cells at zero again. -/
def endSems : sProp 𝕄 :=
  iprop(semVal (barCell c) 0 ∗ (bigSep Finset.univ fun n : Fin 72 => semVal (sendCell c n) 0) ∗ (bigSep Finset.univ fun n : Fin 72 => semVal (recvCell c n) 0))

/-- What the state after the last operation leaves. -/
theorem leave (fo : (cc0_stg7_0 : Ref sig .tc).ty.Contents (Elt F)) :
    St I K c 7 72 24 72 72 (outAll I c fo) ⊢ iprop(endSems c ∗ some' c cc0_scratch0 ∗ some' c cc0_scratch1
      ∗ (∃ W, owes (c : Thread nD τ) 0 W) ∗ inputs I c ∗ held c cc0_stg7_0 (outAt I c)) := by
  have e1 : (bigSep Finset.univ fun n => sendSt I c 7 72 72 n) = iprop((bigSep Finset.univ fun n : Fin 72 => semVal (sendCell c n) 0) ∗ bigSep Finset.univ fun n => sendPay I c n) := by
    rw [← bigSep_sep']
    exact bigSep_congr fun n _ => if_pos (pos_lt n)
  have e2 : (bigSep Finset.univ fun n => recvSt I c 72 n) = iprop((bigSep Finset.univ fun n : Fin 72 => semVal (recvCell c n) 0) ∗ bigSep Finset.univ fun n => recvPay I c (opp n)) := by
    rw [bigSep_univ_equiv oppEquiv fun n => (semVal (recvCell c n) 0 : sProp 𝕄), ← bigSep_sep']
    exact bigSep_congr fun n _ => if_pos (pos_lt n)
  have e3 : barSt (F := F) c 7 = semVal (barCell c) 0 := if_neg (by decide)
  unfold St
  rw [e1, e2, e3, owed_done c 7 72 (by decide) (by decide), outAll_eq]
  unfold endSems
  iintro ⟨-, HB, ⟨HS, HP⟩, -, ⟨HR, HQ⟩, HO, Hin, Hout⟩
  isplitl [HB HS HR]
  · isplitl [HB]; · iexact HB
    isplitl [HS]; · iexact HS
    iexact HR
  isplitl [HP]
  · iapply (end_slot I c); iexact HP
  isplitl [HQ]
  · iapply (end_recv I c); iexact HQ
  isplitl [HO]; · iexact HO
  isplitl [Hin]; · iexact Hin
  iexact Hout

end Cert.Mlp

end

end
-- ==== Proof.Ghost.lean ====
/-
What a launch deals the devices: invariants of the cells, rights to pay, credits for the waits.
-/
module

public import proofs.«01_k».proof.Proof.Ends

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F)

/-! ## The cells and the rights to pay into them -/

theorem sendS_inj {n n' : Fin 72} (h : sendS n = sendS n') : n = n' :=
  Fin.ext (by have := congrArg Fin.val h; rw [sendS_val, sendS_val] at this; omega)
theorem recvS_inj {n n' : Fin 72} (h : recvS n = recvS n') : n = n' :=
  Fin.ext (by have := congrArg Fin.val h; rw [recvS_val, recvS_val] at this; omega)
theorem send_ne_recv (n n' : Fin 72) : sendS n ≠ recvS n' := fun h => by
  have := congrArg Fin.val h; rw [sendS_val, recvS_val] at this; have := n.isLt; omega

theorem reg_ne_dma (s : Sem sig) (q : DmaSem sig) : (SemLoc.reg s : SemLoc sig) ≠ SemLoc.dma q := nofun

theorem csem_injective : Function.Injective csem := by
  rintro (u | n | n) (u' | n' | n') h
  · rfl
  · exact absurd h (reg_ne_dma _ _)
  · exact absurd h (reg_ne_dma _ _)
  · exact absurd h.symm (reg_ne_dma _ _)
  · rw [sendS_inj (SemLoc.dma.inj h)]
  · exact absurd (SemLoc.dma.inj h) (send_ne_recv n n')
  · exact absurd h.symm (reg_ne_dma _ _)
  · exact absurd (SemLoc.dma.inj h).symm (send_ne_recv n' n)
  · rw [recvS_inj (SemLoc.dma.inj h)]

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- The rights to pay into a device's cells: one for each class of its barrier, one for each of its other cells. -/
abbrev Tok : Type := Fin 6 ⊕ (Fin 72 ⊕ Fin 72)

def tokCell : Tok → Cell × Fin 6
  | .inl p => (.inl (), p)
  | .inr k => (.inr k, 0)

def tokOf (x : Dev nD × Tok) : GSem nD τ sig × ℕ × Fin 6 := (kcell (x.1, (tokCell x.2).1), 0, (tokCell x.2).2)

theorem tokCell_injective : Function.Injective tokCell := by
  rintro (p | k) (p' | k') h
  · rw [show p = p' from congrArg Prod.snd h]
  · exact absurd (congrArg Prod.fst h) nofun
  · exact absurd (congrArg Prod.fst h) nofun
  · rw [show k = k' from Sum.inr.inj (congrArg Prod.fst h)]

theorem tokOf_injective : Function.Injective tokOf := by
  rintro ⟨c, j⟩ ⟨c', j'⟩ h
  have h1 := kcell_injective (congrArg Prod.fst h)
  have h2 : (tokCell j).2 = (tokCell j').2 := congrArg (fun x : GSem nD τ sig × ℕ × Fin 6 => x.2.2) h
  have h3 : j = j' := tokCell_injective (Prod.ext (congrArg Prod.snd h1) h2)
  rw [show c = c' from congrArg Prod.fst h1, h3]

def ringToks : Finset (GSem nD τ sig × ℕ × Fin 6) := Finset.univ.map ⟨tokOf, tokOf_injective⟩

def u₀ : UU :=
  (initOf (Pipeline.cells cfgs cellOf_inj) (Pipeline.launchToks cfgs cellOf_inj), initOf ringCells ringToks)

/-- The rights to pay into device `c`'s own cells. -/
def toks (c : Dev nD) : sProp 𝕄 :=
  iprop((bigSep Finset.univ fun p : Fin 6 => dutyTok ER (barCell c) 0 p)
    ∗ (bigSep Finset.univ fun n : Fin 72 => dutyTok ER (sendCell c n) 0 0)
    ∗ (bigSep Finset.univ fun n : Fin 72 => dutyTok ER (recvCell c n) 0 0))

/-- What the launch deals device `c`. -/
def G (c : Dev nD) : sProp 𝕄 :=
  iprop((bigSep Finset.univ fun k : Cell => roundState ER (sched I) (kcell (c, k)) 0)
    ∗ (startPos c ∗ bigSep Finset.univ fun k : Cell => reached ER (kcell (c, k)) 0) ∗ toks c)

/-- The invariants of all cells, and that every cell has reached its round. -/
def records (K : Dev nD × Cell → ℕ) : sProp 𝕄 :=
  iprop((bigSep Finset.univ fun ck : Dev nD × Cell => cellInv ER (sched I) (K ck) (kcell ck))
    ∗ bigSep Finset.univ fun ck : Dev nD × Cell => reached ER (kcell ck) 0)

instance records_persistent (K : Dev nD × Cell → ℕ) : BI.Persistent (records I K) := by unfold records; infer_instance

/-- What device `c` starts with once the invariants stand. -/
def G' (c : Dev nD) : sProp 𝕄 := iprop(∃ K, records I K ∗ startPos c ∗ payToks c)

theorem toks_eq (c : Dev nD) : (bigSep Finset.univ fun j : Tok => (dutyTok ER (tokOf (c, j)).1 (tokOf (c, j)).2.1 (tokOf (c, j)).2.2 : sProp 𝕄)) = toks c := by
  rw [bigSep_univ_sum, bigSep_univ_sum]
  rfl

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched I) ringCells ringToks) $$ HX with ⟨Hst, Hr, Hat, Htok⟩
  imodintro
  ihave Hst' := (Entails.of_eq (hX fun g => roundState ER (sched I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G startPos; simp only [bigSep_sep']
  isplitl [Hst']; · iexact Hst'
  isplitl [Hat' Hr']
  · isplitl [Hat'] <;> iassumption
  iexact Htok'

/-! ## The semaphores -/

/-- The kernel's own semaphores. -/
def osem : Fin 72 ⊕ Fin 72 → SemLoc sig
  | .inl n => .dma (sendS n)
  | .inr n => .dma (recvS n)

theorem stage_sem_lt : ∀ (w : Fin cfg0.W) (s : Fin (cfg0.spec w).nbuf), ((cfg0.spec w).sem s).val < 8 := by
  intro w s; fin_cases w <;> fin_cases s <;> decide

theorem ownSemFacts : Pipeline.OwnSemFacts cfg0.spec osem where
  isScoped := by rintro (n | n) <;> (revert n; decide +kernel)
  inj := by
    intro k k' h
    exact Sum.inr_injective (csem_injective (a₁ := .inr k) (a₂ := .inr k') (by rcases k with n | n <;> rcases k' with n' | n' <;> exact h))
  disj := by
    rintro (n | n) w s h
    · have := congrArg Fin.val (SemLoc.dma.inj h); have h' := stage_sem_lt w s; rw [sendS_val] at this; omega
    · have := congrArg Fin.val (SemLoc.dma.inj h); have h' := stage_sem_lt w s; rw [recvS_val] at this; omega

theorem ownSems0_eq (c : Dev nD) : (Pipeline.ownSems0 (Ix := Unit) (Name := ℕ) (U := UU) (Lvl := ℕ) (Val := Elt F) (τ := τ) osem c : sProp 𝕄)
    = iprop((bigSep Finset.univ fun n : Fin 72 => semVal (sendCell c n) 0) ∗ (bigSep Finset.univ fun n : Fin 72 => semVal (recvCell c n) 0)) := by
  unfold Pipeline.ownSems0
  rw [bigSep_univ_sum]
  rfl

theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, bigSep_univ_sum, bigSep_univ_sum, Finset.univ_unique (α := Unit), bigSep_singleton]
  show _ ⊢ (iprop(semVal (barCell c) 0 ∗ (bigSep Finset.univ fun n : Fin 72 => semVal (sendCell c n) 0) ∗ (bigSep Finset.univ fun n : Fin 72 => semVal (recvCell c n) 0)) : sProp 𝕄)
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : Cell => iprop(∃ κ : ℕ, cellInv ER (sched I) κ (kcell (c, k))))
          ∗ (startPos c ∗ bigSep Finset.univ fun k : Cell => reached ER (kcell (c, k)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (sched I) (kcell (c, k)) 0)
      ⊢ (|={Set.univ}=> bigSep Finset.univ fun k => iprop(∃ κ : ℕ, cellInv ER (sched I) κ (kcell (c, k))) : sProp 𝕄) from by
        rw [← bigSep_sep']
        exact (bigSep_mono fun k _ => (Rounds.body_intro ER (sched I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the rights to those who pay -/

def barEquiv : Dev nD × Fin 6 ≃ Dev nD × Fin 6 where
  toFun x := (peer x.2 x.1, back x.2)
  invFun x := (peer x.2 x.1, back x.2)
  left_inv x := Prod.ext (peer_back x.2 x.1) (back_back x.2)
  right_inv x := Prod.ext (peer_back x.2 x.1) (back_back x.2)

def recvEquiv : Dev nD × Fin 72 ≃ Dev nD × Fin 72 where
  toFun x := (peer (cls x.2) x.1, opp x.2)
  invFun x := (peer (cls x.2) x.1, opp x.2)
  left_inv x := Prod.ext (by show peer (cls (opp x.2)) (peer (cls x.2) x.1) = x.1; rw [cls_opp, peer_back]) (opp_opp x.2)
  right_inv x := Prod.ext (by show peer (cls (opp x.2)) (peer (cls x.2) x.1) = x.1; rw [cls_opp, peer_back]) (opp_opp x.2)

theorem around {α : Type} [Fintype α] (e : Dev nD × α ≃ Dev nD × α) (Φ : Dev nD × α → sProp 𝕄) :
    (bigSep Finset.univ fun c => bigSep Finset.univ fun a => Φ (c, a)) = bigSep Finset.univ fun c => bigSep Finset.univ fun a => Φ (e (c, a)) := by
  rw [← bigSep_univ_prod, bigSep_univ_equiv e, bigSep_univ_prod]

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around barEquiv (fun x => (dutyTok ER (barCell x.1) 0 x.2 : sProp 𝕄)),
    around recvEquiv (fun x => (dutyTok ER (recvCell x.1 x.2) 0 0 : sProp 𝕄))]
  exact BIBase.Entails.refl

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Cell → ℕ) (c : Dev nD) : iprop(records I K ∗ startPos c ∗ payToks c) ⊢ G' I c := by
  unfold G'
  iintro H
  iexists K
  iexact H

theorem regroup :
    (bigSep Finset.univ fun c : Dev nD => iprop((bigSep Finset.univ fun k : Cell => iprop(∃ κ : ℕ, cellInv ER (sched I) κ (kcell (c, k))))
          ∗ (startPos c ∗ bigSep Finset.univ fun k : Cell => reached ER (kcell (c, k)) 0) ∗ toks c) : sProp 𝕄)
      ⊢ bigSep Finset.univ (G' I) := by
  rw [bigSep_sep', bigSep_sep', ← bigSep_univ_prod (fun ck : Dev nD × Cell => iprop(∃ κ : ℕ, cellInv ER (sched I) κ (kcell ck))),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (sched I) κ (kcell ck) : sProp 𝕄))) $$ HI
  icases HK with ⟨%K, #HI⟩
  ihave Htk := (toks_around (F := F)) $$ Htok
  iapply (with_persistent (R := records I K) fun c _ => ghost_intro I K c)
  isplitr
  · unfold records; isplitl; · iexact HI
    iexact HR
  · iapply (Entails.of_eq (bigSep_sep' Finset.univ (fun c : Dev nD => (startPos c : sProp 𝕄)) payToks).symm)
    isplitl [Hat]; · iexact Hat
    iexact Htk

/-- From all semaphores at zero and what the launch deals, what every device starts with. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credits -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {n n' : Fin 72} : Iff (recvCell a n = recvCell b n') (a = b ∧ n = n') :=
  ⟨fun h => ⟨Fin.ext (congrArg (fun g : GSem nD τ sig => g.1.1.val) h), recvS_inj (SemLoc.dma.inj (congrArg Prod.snd h))⟩, fun h => by rw [h.1, h.2]⟩
theorem bar_ne_recv (a b : Dev nD) (n : Fin 72) : barCell a ≠ recvCell b n := fun h => absurd (congrArg Prod.snd h) (reg_ne_dma _ _)

/-- What a device owes a cell at the start. -/
theorem owed_at (c : Dev nD) (g : GSem nD τ sig) : owed c 0 0 g () =
    (∑ n : Fin 72, if g = recvCell (peer (cls n) c) (opp n) then N else 0) + ∑ p : Fin 6, if g = barCell (peer p c) then 1 else 0 := by
  have h1 (n : Fin 72) : (if 0 ≤ pos n then (tallyAt (recvCell (peer (cls n) c) (opp n)) () N : CellTallies nD τ sig Unit) else 0) g () = if g = recvCell (peer (cls n) c) (opp n) then N else 0 := by
    rw [if_pos (Nat.zero_le _), tallyAt_apply]
    exact if_congr (and_iff_left rfl) rfl rfl
  have h2 (p : Fin 6) : (if 0 ≤ p.val then (tallyAt (barCell (peer p c)) () 1 : CellTallies nD τ sig Unit) else 0) g () = if g = barCell (peer p c) then 1 else 0 := by
    rw [if_pos (Nat.zero_le _), tallyAt_apply]
    exact if_congr (and_iff_left rfl) rfl rfl
  unfold owed
  rw [Pi.add_apply, Finsupp.add_apply, Finset.sum_apply, Finset.sum_apply, Finsupp.finset_sum_apply, Finsupp.finset_sum_apply,
    Finset.sum_congr rfl fun n _ => h1 n, Finset.sum_congr rfl fun p _ => h2 p]

theorem owed_bar (d c : Dev nD) : owed d 0 0 (barCell c) () = ∑ p : Fin 6, if d = peer (back p) c then 1 else 0 := by
  rw [owed_at, Finset.sum_eq_zero (fun n _ => if_neg (bar_ne_recv _ _ _)), zero_add]
  refine Finset.sum_congr rfl fun p _ => if_congr ?_ rfl rfl
  rw [bar_eq_iff]
  exact ⟨fun h => by rw [h, peer_back], fun h => by rw [h, peer_back']⟩

theorem owed_recv (d c : Dev nD) (m : Fin 72) : owed d 0 0 (recvCell c m) () = if d = peer (cls m) c then N else 0 := by
  rw [owed_at, Finset.sum_eq_zero (s := (Finset.univ : Finset (Fin 6))) (fun p _ => if_neg (bar_ne_recv _ _ _).symm), add_zero,
    Finset.sum_eq_single (opp m) (fun n _ h => if_neg fun h' => h (by rw [(recv_eq_iff.mp h').2, opp_opp])) (fun h => absurd (Finset.mem_univ _) h)]
  refine if_congr ?_ rfl rfl
  rw [recv_eq_iff, cls_opp, opp_opp]
  exact ⟨fun h => by rw [h.1, peer_back'], fun h => ⟨by rw [h, peer_back], rfl⟩⟩

theorem launch_bar (c : Dev nD) :
    tallyOn (barCell c) (launchCredit (Pipeline.owing fun d => owed d 0 0) 0 (barCell c)) = (tallyAt (barCell c) () 6 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun p _ => (Finset.sum_ite_eq' Finset.univ (peer (back p) c) fun _ => 1).trans (if_pos (Finset.mem_univ _)),
    Finset.sum_const, Finset.card_univ, Fintype.card_fin, smul_eq_mul]

theorem launch_recv (c : Dev nD) (m : Fin 72) :
    tallyOn (recvCell c m) (launchCredit (Pipeline.owing fun d => owed d 0 0) 0 (recvCell c m)) = (tallyAt (recvCell c m) () N : CellTallies nD τ sig Unit) := by
  unfold tallyAt; refine congrArg _ (Finsupp.ext fun u => ?_); cases u
  rw [Pipeline.launchCredit_owing, Finsupp.single_eq_same, Finset.sum_congr rfl fun d _ => owed_recv d c m, Finset.sum_ite_eq' Finset.univ (peer (cls m) c) fun _ => N,
    if_pos (Finset.mem_univ _)]

/-- The receivers' semaphores as a set of places. -/
def recvSet : Finset (SemLoc sig) := Finset.univ.map ⟨fun n : Fin 72 => SemLoc.dma (recvS n), fun _ _ h => recvS_inj (SemLoc.dma.inj h)⟩

theorem creds (c : Dev nD) : (Pipeline.launchCred (fun d => owed d 0 0) c : sProp 𝕄) ⊢ startCreds c := by
  unfold Pipeline.launchCred startCreds
  rw [bigSep_univ_at _ (SemLoc.reg barS), launch_bar]
  refine sep_mono_right ?_
  have hs : recvSet ⊆ Finset.univ.erase (SemLoc.reg barS) := fun x hx => by
    obtain ⟨n, -, rfl⟩ := Finset.mem_map.mp hx
    exact Finset.mem_erase.mpr ⟨(reg_ne_dma _ _).symm, Finset.mem_univ _⟩
  refine (bigSep_subset hs).trans ?_
  unfold recvSet
  rw [bigSep_map]
  exact bigSep_mono fun n _ => Entails.of_eq (congrArg cred (launch_recv c n))

end Cert.Mlp

end

end
-- ==== Proof.Run.lean ====
/-
The whole program's run: what every device's arrays hold when it has ended.
-/
module

public import proofs.«01_k».proof.Proof.Ghost
public import proofs.«01_k».proof.Proof.Gen.KernelIdeal.Frame
public import Idealize.ShloMosaic.Lib.Pipeline.CollectiveSegs

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- What the devices are given, in a memory `m`. -/
def ins (c : Dev nD) : Ins F where
  x := (win0_0.blk (0 : Fin 1)).view.read (Elt F) (m ((c : Thread nD τ).loc main_arg0))
  wi0 := (win0_1.blk (0 : Fin 1)).view.read (Elt F) (m ((c : Thread nD τ).loc main_arg1))
  wo0 := (win0_2.blk (0 : Fin 1)).view.read (Elt F) (m ((c : Thread nD τ).loc main_arg2))
  wi1 := (win0_3.blk (0 : Fin 1)).view.read (Elt F) (m ((c : Thread nD τ).loc main_arg3))
  wo1 := (win0_4.blk (0 : Fin 1)).view.read (Elt F) (m ((c : Thread nD τ).loc main_arg4))
  wi2 := (win0_5.blk (0 : Fin 1)).view.read (Elt F) (m ((c : Thread nD τ).loc main_arg5))
  wo2 := (win0_6.blk (0 : Fin 1)).view.read (Elt F) (m ((c : Thread nD τ).loc main_arg6))

/-- What device `c` starts from, but for its buffers; and with them. -/
def start (c : Dev nD) : sProp 𝕄 := iprop(G' (ins m) c ∗ startCreds c ∗ levels)
def Φ₀ (c : Dev nD) : sProp 𝕄 := iprop(start m c ∗ some' c cc0_scratch0 ∗ some' c cc0_scratch1)
/-- What it ends with. -/
def Φ₁ (c : Dev nD) : sProp 𝕄 := iprop(endSems c ∗ some' c cc0_scratch0 ∗ some' c cc0_scratch1)

def dats (_ : Fin 1) (c : Dev nD) : Dat τ (Elt F) Unit ℕ UU ℕ cfg0 c where
  A w := m ((cfg0.win w).arr.view.loc (c : Thread nD τ))
  after w _ := match w with
    | ⟨0, _⟩ => (ins m c).x
    | ⟨1, _⟩ => (ins m c).wi0
    | ⟨2, _⟩ => (ins m c).wo0
    | ⟨3, _⟩ => (ins m c).wi1
    | ⟨4, _⟩ => (ins m c).wo1
    | ⟨5, _⟩ => (ins m c).wi2
    | ⟨6, _⟩ => (ins m c).wo2
    | ⟨7, _⟩ => outAt (ins m) c
  Φ t := match t with
    | ⟨0, _⟩ => Φ₀ m c
    | ⟨_ + 1, _⟩ => Φ₁ c
  q _ := fullShare
  owed t := match t with
    | ⟨0, _⟩ => owed c 0 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem bigSep_W (Φ : Fin cfg0.W → sProp 𝕄) : bigSep Finset.univ Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

/-! ## The body -/

/-- A staging buffer holding `X`, as the pipeline states it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_held (c : Dev nD) (b : Ref sig .tc) (X : b.ty.Contents (Elt F)) : stg c b X ⊢ held c b X := by
  unfold held
  iintro ⟨%f, %h, H⟩
  subst h
  iexact H
theorem held_stg (c : Dev nD) (b : Ref sig .tc) (X : b.ty.Contents (Elt F)) : held c b X ⊢ stg c b X := by
  unfold held
  iintro H
  iexists X
  isplitr; · ipureintro; rfl
  iexact H

theorem before_held (c : Dev nD) (b : Ref sig .tc) {D : Type} (X : b.ty.Contents (Elt F)) (Y : D → b.ty.Contents (Elt F)) (h : ∀ d, Y d = X) :
    (iprop(∃ d, stg c b (Y d)) : sProp 𝕄) ⊢ held c b X := by
  iintro ⟨%d, H⟩
  rw [h d]
  iapply (stg_held c b X)
  iexact H

theorem before_some (c : Dev nD) (b : Ref sig .tc) {D : Type} (Y : D → b.ty.Contents (Elt F)) :
    (iprop(∃ d, stg c b (Y d)) : sProp 𝕄) ⊢ iprop(∃ X, held c b X) := by
  iintro ⟨%d, H⟩
  iexists (Y d)
  iapply (stg_held c b (Y d))
  iexact H

theorem inputs_eq (I : Dev nD → Ins F) (c : Dev nD) : (inputs I c : sProp 𝕄) = iprop(held c cc0_stg0_0 (I c).x ∗ held c cc0_stg1_0 (I c).wi0 ∗ held c cc0_stg2_0 (I c).wo0
    ∗ held c cc0_stg3_0 (I c).wi1 ∗ held c cc0_stg4_0 (I c).wo1 ∗ held c cc0_stg5_0 (I c).wi2 ∗ held c cc0_stg6_0 (I c).wo2) := by
  unfold inputs
  exact bigSep_univ_eq_bigSepL ([0, 1, 2, 3, 4, 5, 6] : List (Fin 7)) (by decide) (by decide) _

def bodyPre (c : Dev nD) : sProp 𝕄 :=
  iprop(Φ₀ m c ∗ (dats m 0 c).owesAt () t0_0.castSucc
    ∗ (∃ d, stg c cc0_stg0_0 ((dats m 0 c).before (0 : Fin 8) t0_0 d))
    ∗ (∃ d, stg c cc0_stg1_0 ((dats m 0 c).before (1 : Fin 8) t0_0 d))
    ∗ (∃ d, stg c cc0_stg2_0 ((dats m 0 c).before (2 : Fin 8) t0_0 d))
    ∗ (∃ d, stg c cc0_stg3_0 ((dats m 0 c).before (3 : Fin 8) t0_0 d))
    ∗ (∃ d, stg c cc0_stg4_0 ((dats m 0 c).before (4 : Fin 8) t0_0 d))
    ∗ (∃ d, stg c cc0_stg5_0 ((dats m 0 c).before (5 : Fin 8) t0_0 d))
    ∗ (∃ d, stg c cc0_stg6_0 ((dats m 0 c).before (6 : Fin 8) t0_0 d))
    ∗ (∃ d, stg c cc0_stg7_0 ((dats m 0 c).before (7 : Fin 8) t0_0 d)))

def bodyPost (c : Dev nD) : sProp 𝕄 :=
  iprop(Φ₁ c ∗ (dats m 0 c).owesAt () t0_0.succ
    ∗ stg c cc0_stg0_0 (ins m c).x ∗ stg c cc0_stg1_0 (ins m c).wi0 ∗ stg c cc0_stg2_0 (ins m c).wo0 ∗ stg c cc0_stg3_0 (ins m c).wi1
    ∗ stg c cc0_stg4_0 (ins m c).wo1 ∗ stg c cc0_stg5_0 (ins m c).wi2 ∗ stg c cc0_stg6_0 (ins m c).wo2 ∗ stg c cc0_stg7_0 (outAt (ins m) c))

theorem before_0 (c : Dev nD) (d) : (dats m 0 c).before (0 : Fin 8) t0_0 d = (ins m c).x := by unfold Dat.before; rw [if_pos (fetch0_0 t0_0)]; rfl
theorem before_1 (c : Dev nD) (d) : (dats m 0 c).before (1 : Fin 8) t0_0 d = (ins m c).wi0 := by unfold Dat.before; rw [if_pos (fetch0_1 t0_0)]; rfl
theorem before_2 (c : Dev nD) (d) : (dats m 0 c).before (2 : Fin 8) t0_0 d = (ins m c).wo0 := by unfold Dat.before; rw [if_pos (fetch0_2 t0_0)]; rfl
theorem before_3 (c : Dev nD) (d) : (dats m 0 c).before (3 : Fin 8) t0_0 d = (ins m c).wi1 := by unfold Dat.before; rw [if_pos (fetch0_3 t0_0)]; rfl
theorem before_4 (c : Dev nD) (d) : (dats m 0 c).before (4 : Fin 8) t0_0 d = (ins m c).wo1 := by unfold Dat.before; rw [if_pos (fetch0_4 t0_0)]; rfl
theorem before_5 (c : Dev nD) (d) : (dats m 0 c).before (5 : Fin 8) t0_0 d = (ins m c).wi2 := by unfold Dat.before; rw [if_pos (fetch0_5 t0_0)]; rfl
theorem before_6 (c : Dev nD) (d) : (dats m 0 c).before (6 : Fin 8) t0_0 d = (ins m c).wo2 := by unfold Dat.before; rw [if_pos (fetch0_6 t0_0)]; rfl

/-- What the pipeline hands the body is the state the run starts from, at some names. -/
theorem bodyPre_enter (c : Dev nD) : bodyPre m c ⊢ iprop(∃ K fo, St (ins m) K c 0 0 0 0 0 fo) := by
  unfold bodyPre Φ₀ start G' Dat.owesAt Pipeline.owesWithin
  rw [show (dats m 0 c).owed t0_0.castSucc = owed c 0 0 from rfl]
  iintro ⟨⟨⟨⟨%K, #HR, Hpos, Htok⟩, Hcr, #Hlev⟩, S0, S1⟩, ⟨%W, %hW, HO⟩, B0, B1, B2, B3, B4, B5, B6, B7⟩
  ihave B0 := (before_held c cc0_stg0_0 _ _ (before_0 m c)) $$ B0
  ihave B1 := (before_held c cc0_stg1_0 _ _ (before_1 m c)) $$ B1
  ihave B2 := (before_held c cc0_stg2_0 _ _ (before_2 m c)) $$ B2
  ihave B3 := (before_held c cc0_stg3_0 _ _ (before_3 m c)) $$ B3
  ihave B4 := (before_held c cc0_stg4_0 _ _ (before_4 m c)) $$ B4
  ihave B5 := (before_held c cc0_stg5_0 _ _ (before_5 m c)) $$ B5
  ihave B6 := (before_held c cc0_stg6_0 _ _ (before_6 m c)) $$ B6
  ihave B7 := (before_some c cc0_stg7_0 _) $$ B7
  icases B7 with ⟨%fo, B7⟩
  iexists K
  iexists fo
  iapply (enter (ins m) K c fo)
  isplitr
  · unfold known records
    icases HR with ⟨HR1, HR2⟩
    isplitr; · iexact HR1
    isplitr; · iexact HR2
    iexact Hlev
  isplitl [Hpos]; · iexact Hpos
  isplitl [Htok]; · iexact Htok
  isplitl [Hcr]; · iexact Hcr
  isplitl [S0]; · iexact S0
  isplitl [S1]; · iexact S1
  isplitl [HO]; · iexists W; iexact HO
  isplitr [B7]
  · rw [inputs_eq]
    isplitl [B0]; · iexact B0
    isplitl [B1]; · iexact B1
    isplitl [B2]; · iexact B2
    isplitl [B3]; · iexact B3
    isplitl [B4]; · iexact B4
    isplitl [B5]; · iexact B5
    iexact B6
  iexact B7

/-- The state the run ends in is what the pipeline wants back. -/
theorem leave_bodyPost (K : Dev nD × Cell → ℕ) (c : Dev nD) (fo : (cc0_stg7_0 : Ref sig .tc).ty.Contents (Elt F)) :
    St (ins m) K c 7 72 24 72 72 (outAll (ins m) c fo) ⊢ bodyPost m c := by
  refine (leave (ins m) K c fo).trans ?_
  unfold bodyPost Φ₁ Dat.owesAt Pipeline.owesWithin
  rw [show (dats m 0 c).owed t0_0.succ = 0 from rfl, inputs_eq]
  iintro ⟨HS, S0, S1, ⟨%W, HO⟩, ⟨B0, B1, B2, B3, B4, B5, B6⟩, B7⟩
  isplitl [HS S0 S1]
  · isplitl [HS]; · iexact HS
    isplitl [S0]; · iexact S0
    iexact S1
  isplitl [HO]
  · iexists W
    isplitr; · ipureintro; exact fun _ _ => Or.inl trivial
    iexact HO
  isplitl [B0]; · iapply (held_stg c cc0_stg0_0 (ins m c).x); iexact B0
  isplitl [B1]; · iapply (held_stg c cc0_stg1_0 (ins m c).wi0); iexact B1
  isplitl [B2]; · iapply (held_stg c cc0_stg2_0 (ins m c).wo0); iexact B2
  isplitl [B3]; · iapply (held_stg c cc0_stg3_0 (ins m c).wi1); iexact B3
  isplitl [B4]; · iapply (held_stg c cc0_stg4_0 (ins m c).wo1); iexact B4
  isplitl [B5]; · iapply (held_stg c cc0_stg5_0 (ins m c).wi2); iexact B5
  isplitl [B6]; · iapply (held_stg c cc0_stg6_0 (ins m c).wo2); iexact B6
  iapply (held_stg c cc0_stg7_0 (outAt (ins m) c)); iexact B7

theorem sound_body (c : Dev nD) : bodyPre m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3)
    (fun _ => bodyPost m c) := by
  refine (bodyPre_enter m c).trans ?_
  iintro ⟨%K, %fo, H⟩
  iapply (body_runs (ins m) K c (fo := fo) (fun _ => bodyPost m c) (fun _ _ => leave_bodyPost m K c fo))
  iexact H

set_option maxRecDepth 200000 in
/-- The library's body obligation on device `c`. -/
theorem body_obligation (c : Dev nD) : BodyObligation (dats m 0 c) (defs₀ (F := F)) 𝒱₀ () Set.univ := fun t => by
  rw [fin_N0 t]
  rw [bigSep_W, bigSep_W]
  simp only [owns_whole_eq]
  exact sound_body m c

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owed d 0 0) c ∗ prngReg c (ρ c) ∗ G' (ins m) c)
      ⊢ |={Set.univ}=> iprop(start m c ∗ emp) := by
  iintro ⟨-, Hlev, Hcr, -, HG⟩
  ihave Hc := (creds (F := F) c) $$ Hcr
  imodintro
  unfold start levels
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ some'
  iintro ⟨Hs, -, H0, H1⟩
  isplitl [Hs]; · iexact Hs
  isplitl [H0]; · iexact H0
  iexact H1

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ endSems some'
  iintro ⟨⟨HB, HS, HR⟩, H0, H1⟩
  isplitl [HB]; · iexact HB
  isplitl [HS HR]
  · isplitl [HS]; · iexact HS
    iexact HR
  isplitl [H0]; · iexact H0
  iexact H1

theorem lv_stage (c : Dev nD) (q : DmaSem sig) (h : q.val < 8) : lv ((c : Thread nD τ), .dma q) () = 0 := if_neg (by omega)

theorem mayWait_stage (c : Dev nD) (q : DmaSem sig) (h : q.val < 8) (O : CellTallies nD τ sig Unit) (hO : O = owed c 0 0 ∨ O = 0) :
    (levAts L lv : sProp 𝕄) ⊢ MayWait (c : Thread nD τ) (.dma q) () O := by
  rcases hO with rfl | rfl
  · have H := mayWait (F := F) c (.dma q) 0 0 (fun n _ => by rw [lv_stage c q h]; omega) (Or.inr (by rw [lv_stage c q h]; omega))
    unfold levels at H
    exact H
  · rw [MayWait_zero]
    iintro -
    iempintro

theorem waits (c : Dev nD) : (levAts L lv : sProp 𝕄) ⊢ Pipeline.cellsWaits cfgs (dats m) () 0 c :=
  Pipeline.cellsWaits_intro cfgs (dats m) () 0 c fun w s t =>
    mayWait_stage c _ (stage_sem_lt w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 200000 in
/-- Every weakly fair execution from zero counters ends with the arrays at `finalA` and all counters at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owed d 0 0) (howed₀ := fun _ => rfl) (howedN := fun _ => rfl)
    (L := L) (lv := lv) (hL := L_of_ne) (hwaits := waits m)
    (G := G (ins m)) (G' := G' (ins m)) (u₀ := u₀)
    (hu₀ := by
      unfold u₀
      iintro Hu
      ihave H := (ownU_pair _ _) $$ Hu
      icases H with ⟨HP, HX⟩
      imod (fund_ring (ins m)) $$ HX with HG
      imodintro
      isplitl [HP] <;> iassumption)
    (hglob := glob (ins m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mlp

end

end
-- ==== Proof.Frames.lean ====
/-
What the runs of the programs leave: the result, the arguments as they were, all counters at zero.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Mlp

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The arguments after the run are what they were. -/
def Kept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem kept_of {r : PUnit × MemSt nD τ sig (Elt F)} (h : QC m r) : Kept m r := fun c =>
  ⟨(h c 0).trans ((dats m 0 c).arrAt_in 0 rfl _), (h c 1).trans ((dats m 0 c).arrAt_in 1 rfl _),
   (h c 2).trans ((dats m 0 c).arrAt_in 2 rfl _), (h c 3).trans ((dats m 0 c).arrAt_in 3 rfl _),
   (h c 4).trans ((dats m 0 c).arrAt_in 4 rfl _), (h c 5).trans ((dats m 0 c).arrAt_in 5 rfl _),
   (h c 6).trans ((dats m 0 c).arrAt_in 6 rfl _)⟩

/-- The program runs, keeps its arguments and ends with all counters at zero. -/
theorem frame_main : θ_run defs (onTc (τ := τ) (main (F := F))) ⟨m, fun _ => 0, ρ⟩ (fun r => Kept m r ∧ r.2.sem = fun _ => 0) :=
  (θ_run defs _ _).mono (fun _ h => ⟨kept_of m h.1, h.2⟩) (run_main m ρ)

/-- The idealized program runs, keeps its arguments and ends with all counters at zero. -/
theorem quiescent_ideal : Cert.quiescent_KernelIdeal := fun m ρ _ => frame_main m ρ

set_option maxRecDepth 100000 in
/-- The two printings have the same table of kernel functions. -/
theorem bodies_eq : Cert.Kernel.defs₀ (F := F) = Cert.KernelIdeal.defs₀ (F := F) := by
  unfold Cert.Kernel.defs₀ Cert.KernelIdeal.defs₀
  congr 1
  funext l a
  match l, a with
  | 0, (t, s) => rfl

/-- The two printings have the same table of bodies and regions. -/
theorem defs_eq : Cert.Kernel.defs (F := F) = Cert.KernelIdeal.defs (F := F) := by
  unfold Cert.Kernel.defs Cert.KernelIdeal.defs
  exact congrArg (Pipeline.defs (Cert.KernelIdeal.pcfgs (F := F))) bodies_eq

/-- The program as printed, which is the same text, runs, keeps its arguments and ends with all counters at zero. -/
theorem quiescent_printed : Cert.quiescent_Kernel := fun m ρ _ =>
  (congrArg (fun D => θ_run D (onTc (τ := τ) (main (F := Bits))) ⟨m, fun _ => 0, ρ⟩ (fun r => Kept m r ∧ r.2.sem = fun _ => 0)) defs_eq).mpr
    (frame_main (F := Bits) m ρ)

/-- The reference runs and keeps its arguments; it has no counters. -/
theorem quiescent_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Mlp

end

end
-- ==== Proof.Sums.lean ====
/-
The two sums of the equation: over the sixteen devices, and over the contracted axis cut in sixteen blocks.
-/
module

public import proofs.«01_k».proof.Proof.Chain
public import Idealize.ShloMosaic.Lib.ValueIdx
public import Idealize.ShloMosaic.Lib.Pipeline.Value
public import Idealize.ShloMosaic.Lib.Pipeline.ValueKit.Acc
public import Mathlib.Tactic.Abel

@[expose] public section

noncomputable section

namespace Cert.Mlp

open Cert.KernelIdeal Cert.KernelIdeal.Gen
open Idealize.ShloMosaic Idealize.ShloMosaic.ValueIdx
open scoped BigOperators

/-- Column `k` of block `d` of an axis cut in sixteen blocks of 128. -/
def col (d : Dev nD) (k : Fin 128) : Fin 2048 :=
  ⟨d.val * 128 + k.val, by have h : d.val < 16 := d.isLt; have := k.isLt; omega⟩

/-- A sum over the axis is the sum over its blocks of the sums over a block. -/
theorem sum_blocks (f : Fin 2048 → EReal) : ∑ k, f k = ∑ d : Dev nD, ∑ k, f (col d k) := by
  have h := Fin.sum_univ_univ_mul_add 16 128 (fun n => if hn : n < 2048 then f ⟨n, hn⟩ else 0)
  have hr : ∑ l : Fin (16 * 128), (if hn : l.val < 2048 then f ⟨l.val, hn⟩ else 0) = ∑ k : Fin 2048, f k :=
    Finset.sum_congr rfl fun l _ => dif_pos l.isLt
  rw [← hr, ← h]
  exact Finset.sum_congr rfl fun d _ => Finset.sum_congr rfl fun k _ => dif_pos (col d k).isLt

/-- A sum over the devices, in the order in which the exchanges reach them from device `c`. -/
theorem sum_sixteen (f : Dev nD → EReal) (c : Dev nD) : ∑ d, f d = ((sixteen c).map f).sum := by
  rw [((sixteen_perm c).map f).sum_eq]
  exact (List.sum_ofFn (f := f)).symm.trans (by rw [List.ofFn_eq_map])

/-- A peer in the plane and a peer across the planes may be taken in either order. -/
theorem peer_comm : ∀ (p p' : Fin 6) (_ : p.val < 3) (_ : 3 ≤ p'.val) (c : Dev nD), peer p' (peer p c) = peer p (peer p' c) := by
  decide +kernel

theorem fromSlot_intoSlot (v : FVec Ideal S32x256 .f32) : fromSlot (intoSlot v) = v := shapeCast_shapeCast v _ _

/-- Adding the peers of one group and then those of the other adds up the blocks of all sixteen devices. -/
theorem addGroup_twice (a : Dev nD → FVec Ideal S32x256 .f32) (c : Dev nD) (g g' : ℕ) (h : g = 0 ∧ g' = 1 ∨ g = 1 ∧ g' = 0)
    (i : S32x256.Idx) : addGroup (fun d => addGroup a d g) c g' i = ∑ d, a d i := by
  have e (p p' : Fin 6) (h : p.val < 3) (h' : 3 ≤ p'.val) := peer_comm p p' h h' c
  rw [sum_sixteen (fun d => a d i) c]
  obtain ⟨rfl, rfl⟩ | ⟨rfl, rfl⟩ := h <;>
    simp only [addGroup, fromSlot_intoSlot, addf_apply, sixteen, List.map_cons, List.map_nil, List.sum_cons, List.sum_nil,
      e 0 3 (by decide) (by decide), e 0 4 (by decide) (by decide), e 0 5 (by decide) (by decide),
      e 1 3 (by decide) (by decide), e 1 4 (by decide) (by decide), e 1 5 (by decide) (by decide),
      e 2 3 (by decide) (by decide), e 2 4 (by decide) (by decide), e 2 5 (by decide) (by decide)] <;>
    abel

end Cert.Mlp

end

end
-- ==== Proof.Whole.lean ====
/-
What the reference computes: three times the first product, its positive part and the second product, of whole matrices.
-/
module

public import proofs.«01_k».proof.Proof.Gen.ReferenceIdeal.Run
public import Idealize.ShloMosaic.Lib.ValueIdx
public import Idealize.ShloMosaic.Lib.IdealHost
public import Idealize.ShloMosaic.Lib.StackMember

@[expose] public section

noncomputable section

namespace Cert.Mlp.Whole

open Cert.ReferenceIdeal Cert.ReferenceIdeal.Gen
open Idealize.ShloMosaic Idealize.ShloMosaic.ValueIdx
open scoped BigOperators

/-- The first product of a layer. -/
def hid (x : FVec Ideal S128x2048 .f32) (w : FVec Ideal S2048x256 .f32) : FVec Ideal S128x256 .f32 :=
  Host.dotGeneral dot_S128x2048_S2048x256_S128x256_1_0_0_1_n_n none x w

/-- The second product of a layer, of the positive part of the first. -/
def nxt (h : FVec Ideal S128x256 .f32) (w : FVec Ideal S256x2048 .f32) : FVec Ideal S128x2048 .f32 :=
  Host.dotGeneral dot_S128x256_S256x2048_S128x2048_1_0_0_1_n_n none
    (maximumf h (broadcastInDim S128x256 ![] bcast_S_S128x256 (constant S_ .f32 0x00000000#32))) w

/-- The whole arrays. -/
structure Arrays where
  x : FVec Ideal S128x2048 .f32
  wi0 : FVec Ideal S2048x256 .f32
  wo0 : FVec Ideal S256x2048 .f32
  wi1 : FVec Ideal S2048x256 .f32
  wo1 : FVec Ideal S256x2048 .f32
  wi2 : FVec Ideal S2048x256 .f32
  wo2 : FVec Ideal S256x2048 .f32

variable (A : Arrays)

/-- The first and the second weight of layer `l`. -/
def Arrays.wi : ℕ → FVec Ideal S2048x256 .f32
  | 0 => A.wi0
  | 1 => A.wi1
  | _ => A.wi2
def Arrays.wo : ℕ → FVec Ideal S256x2048 .f32
  | 0 => A.wo0
  | 1 => A.wo1
  | _ => A.wo2

/-- What enters layer `l`. -/
def act : ℕ → FVec Ideal S128x2048 .f32
  | 0 => A.x
  | l + 1 => nxt (hid (act l) (A.wi l)) (A.wo l)

theorem hid_at (x : FVec Ideal S128x2048 .f32) (w : FVec Ideal S2048x256 .f32) (r : Fin 128) (j : Fin 256) :
    hid x w (ix2 r j) = ∑ k : Fin 2048, x (ix2 r k) * w (ix2 k j) :=
  StackMember.dotGeneral_plain_apply none x w r j

theorem nxt_at (h : FVec Ideal S128x256 .f32) (w : FVec Ideal S256x2048 .f32) (r : Fin 128) (j : Fin 2048) :
    nxt h w (ix2 r j) = ∑ k : Fin 256, max (h (ix2 r k)) 0 * w (ix2 k j) := by
  refine (StackMember.dotGeneral_plain_apply none _ w r j).trans (Finset.sum_congr rfl fun k _ => ?_)
  rw [maximumf_apply, broadcastInDim_scalar_apply, constant_apply, Ideal.ofBits_zero_f32]

end Cert.Mlp.Whole

end

end
-- ==== Proof.Blocks.lean ====
/-
The equation: when every device is given its block of the whole arrays, chunk by chunk and stage by stage a device
holds its block of what the reference computes.
-/
module

public import proofs.«01_k».proof.Proof.Sums
public import proofs.«01_k».proof.Proof.Whole
public import proofs.«01_k».proof.Proof.Ends
public import Idealize.ShloMosaic.Lib.MatmulPlain
public import Idealize.ShloMosaic.Lib.Layout

@[expose] public section

noncomputable section

namespace Cert.Mlp

open Cert.KernelIdeal Cert.KernelIdeal.Gen
open Idealize.ShloMosaic Idealize.ShloMosaic.ValueIdx
open scoped BigOperators

/-- Row `r` of chunk `q`. -/
def row (q : Fin 4) (r : Fin 32) : Fin 128 := ⟨32 * q.val + r.val, by omega⟩

/-! ## The products at an index -/

theorem across_at (w : FVec Ideal S128x256 .f32) (v : FVec Ideal S32x128 .f32) (r : Fin 32) (j : Fin 256) :
    across w v (ix2 r j) = ∑ k : Fin 128, v (ix2 r k) * w (ix2 k j) := by
  unfold across
  rw [shapeCast_self]
  refine (Ideal.matmul_plain_apply none v w _ r j).trans ?_
  rw [constant_apply, Ideal.ofBits_zero_f32, zero_add]

theorem down_at (w : FVec Ideal S256x128 .f32) (v : FVec Ideal S32x256 .f32) (r : Fin 32) (j : Fin 128) :
    down w (relu v) (ix2 r j) = ∑ k : Fin 256, max (v (ix2 r k)) 0 * w (ix2 k j) := by
  unfold down
  rw [shapeCast_self]
  refine (Ideal.matmul_plain_apply none (relu v) w _ r j).trans ?_
  rw [constant_apply, Ideal.ofBits_zero_f32, zero_add]
  refine Finset.sum_congr rfl fun k _ => ?_
  unfold relu
  rw [maximumf_apply, broadcast_apply]
  exact congrArg (fun z => max (v (ix2 r k)) z * w (ix2 k j)) Ideal.ofBits_zero_f32

theorem first_at (x : FVec Ideal S128x128 .f32) (w : FVec Ideal S128x256 .f32) (r : Fin 128) (j : Fin 256) :
    k0_pay2 x w (ix2 r j) = ∑ k : Fin 128, x (ix2 r k) * w (ix2 k j) := by
  unfold k0_pay2
  rw [shapeCast_self, shapeCast_self]
  refine (Ideal.matmul_plain_apply none x w _ r j).trans ?_
  rw [constant_apply, Ideal.ofBits_zero_f32, zero_add]

/-- A slice of 32 rows is the rows of the chunk it starts. -/
theorem slice_at (v : FVec Ideal S128x256 .f32) (o : ℕ) (hs : S128x256.Slices ![o, 0] S32x256) (q : Fin 4) (ho : o = 32 * q.val)
    (r : Fin 32) (j : Fin 256) : extractStridedSlice S32x256 ![o, 0] v hs (ix2 r j) = v (ix2 (row q r) j) := by
  subst ho
  refine extractStridedSlice_apply _ _ _ (ix2 r j) _ fun a => ?_
  match a with
  | ⟨0, _⟩ => rfl
  | ⟨1, _⟩ => exact (Nat.zero_add _).symm

/-- A chunk of the first product is the rows of the chunk. -/
theorem firstChunk_at (I : Ins Ideal) (q : Fin 4) (r : Fin 32) (j : Fin 256) :
    firstChunk I q.val (ix2 r j) = ∑ k : Fin 128, I.x (ix2 (row q r) k) * I.wi0 (ix2 k j) := by
  rw [← first_at I.x I.wi0 (row q r) j]
  match q with
  | 0 => exact slice_at (k0_pay2 I.x I.wi0) 0 slices_S128x256_o0_0_S32x256 0 rfl r j
  | 1 => exact slice_at (k0_pay2 I.x I.wi0) 32 slices_S128x256_o32_0_S32x256 1 rfl r j
  | 2 => exact slice_at (k0_pay2 I.x I.wi0) 64 slices_S128x256_o64_0_S32x256 2 rfl r j
  | 3 => exact slice_at (k0_pay2 I.x I.wi0) 96 slices_S128x256_o96_0_S32x256 3 rfl r j

/-! ## A device's block of a whole array -/

/-- Every device is given its block of the whole arrays. -/
structure Given (I : Dev nD → Ins Ideal) (A : Whole.Arrays) : Prop where
  x : ∀ d, (I d).x = Layout.block ⟨2, ![128, 128]⟩ ⟨2, ![128, 2048]⟩ 1 16 d A.x
  wi0 : ∀ d, (I d).wi0 = Layout.block ⟨2, ![128, 256]⟩ ⟨2, ![2048, 256]⟩ 0 16 d A.wi0
  wo0 : ∀ d, (I d).wo0 = Layout.block ⟨2, ![256, 128]⟩ ⟨2, ![256, 2048]⟩ 1 16 d A.wo0
  wi1 : ∀ d, (I d).wi1 = Layout.block ⟨2, ![128, 256]⟩ ⟨2, ![2048, 256]⟩ 0 16 d A.wi1
  wo1 : ∀ d, (I d).wo1 = Layout.block ⟨2, ![256, 128]⟩ ⟨2, ![256, 2048]⟩ 1 16 d A.wo1
  wi2 : ∀ d, (I d).wi2 = Layout.block ⟨2, ![128, 256]⟩ ⟨2, ![2048, 256]⟩ 0 16 d A.wi2
  wo2 : ∀ d, (I d).wo2 = Layout.block ⟨2, ![256, 128]⟩ ⟨2, ![256, 2048]⟩ 1 16 d A.wo2

/-- Where an element of a block of columns, and of a block of rows, lies in the whole array. -/
theorem cols_at {n : ℕ} (h : Layout.Tiles ⟨2, ![n, 128]⟩ ⟨2, ![n, 2048]⟩ 1 16) (v : FVec Ideal ⟨2, ![n, 2048]⟩ .f32)
    (d : Dev nD) (r : Fin n) (k : Fin 128) : Layout.block ⟨2, ![n, 128]⟩ ⟨2, ![n, 2048]⟩ 1 16 d v h (ix2 r k) = v (ix2 r (col d k)) := by
  rw [Layout.block_apply]
  refine congrArg v (funext fun a => Fin.ext ?_)
  match a with
  | ⟨0, _⟩ => rfl
  | ⟨1, _⟩ => rfl

theorem rows_at (h : Layout.Tiles ⟨2, ![128, 256]⟩ ⟨2, ![2048, 256]⟩ 0 16) (v : FVec Ideal ⟨2, ![2048, 256]⟩ .f32)
    (d : Dev nD) (k : Fin 128) (j : Fin 256) : Layout.block ⟨2, ![128, 256]⟩ ⟨2, ![2048, 256]⟩ 0 16 d v h (ix2 k j) = v (ix2 (col d k) j) := by
  rw [Layout.block_apply]
  refine congrArg v (funext fun a => Fin.ext ?_)
  match a with
  | ⟨0, _⟩ => rfl
  | ⟨1, _⟩ => rfl

variable {I : Dev nD → Ins Ideal} {A : Whole.Arrays}

theorem Given.next_at (h : Given I A) (l : ℕ) (d : Dev nD) (k : Fin 128) (j : Fin 256) :
    (I d).next l (ix2 k j) = A.wi (l + 1) (ix2 (col d k) j) := by
  match l with
  | 0 => exact (congrFun (h.wi1 d) _).trans (rows_at _ _ d k j)
  | _ + 1 => exact (congrFun (h.wi2 d) _).trans (rows_at _ _ d k j)

theorem Given.wo_at (h : Given I A) (l : ℕ) (d : Dev nD) (r : Fin 256) (k : Fin 128) :
    (I d).wo l (ix2 r k) = A.wo l (ix2 r (col d k)) := by
  match l with
  | 0 => exact (congrFun (h.wo0 d) _).trans (cols_at _ _ d r k)
  | 1 => exact (congrFun (h.wo1 d) _).trans (cols_at _ _ d r k)
  | _ + 2 => exact (congrFun (h.wo2 d) _).trans (cols_at _ _ d r k)

/-! ## The stages -/

/-- After the two stages of a layer a device holds the sum of what the sixteen devices entered the layer with. -/
theorem total_sum (I : Dev nD → Ins Ideal) (q l : ℕ) (c : Dev nD) (i : S32x256.Idx) :
    total I q (2 * l + 1) c i = ∑ d, part I q (2 * l) d i := by
  have hp : part I q (2 * l + 1) = fun d => addGroup (part I q (2 * l)) d ((q + 2 * l) % 2) := by
    funext d; simp only [part]; exact if_pos (by omega)
  unfold total
  rw [hp]
  exact addGroup_twice _ c _ _ (by omega) i

/-- If the devices enter a layer with their shares of the chunk's rows of the first product, each leaves the exchanges
    with the chunk's rows of the whole product. -/
theorem total_at {q : Fin 4} {l : ℕ} {x : FVec Ideal Cert.ReferenceIdeal.S128x2048 .f32} {w : FVec Ideal Cert.ReferenceIdeal.S2048x256 .f32}
    (hp : ∀ d r j, part I q.val (2 * l) d (ix2 r j) = ∑ k : Fin 128, x (ix2 (row q r) (col d k)) * w (ix2 (col d k) j))
    (c : Dev nD) (r : Fin 32) (j : Fin 256) : total I q.val (2 * l + 1) c (ix2 r j) = Whole.hid x w (ix2 (row q r) j) := by
  rw [total_sum, Whole.hid_at, sum_blocks]
  exact Finset.sum_congr rfl fun d _ => hp d r j

/-- The second product then gives a device its columns of the chunk's rows of the next layer's input. -/
theorem down_total {q : Fin 4} {l : ℕ} {x : FVec Ideal Cert.ReferenceIdeal.S128x2048 .f32} {w : FVec Ideal Cert.ReferenceIdeal.S2048x256 .f32}
    (h : Given I A) (c : Dev nD)
    (ht : ∀ r j, total I q.val (2 * l + 1) c (ix2 r j) = Whole.hid x w (ix2 (row q r) j)) (r : Fin 32) (k : Fin 128) :
    down ((I c).wo l) (relu (total I q.val (2 * l + 1) c)) (ix2 r k) = Whole.nxt (Whole.hid x w) (A.wo l) (ix2 (row q r) (col c k)) := by
  rw [down_at, Whole.nxt_at]
  exact Finset.sum_congr rfl fun k' _ => by rw [ht, h.wo_at]

/-- Every device enters layer `l` with its share of the chunk's rows of the layer's first product. -/
theorem part_at (h : Given I A) (q : Fin 4) : ∀ (l : ℕ) (d : Dev nD) (r : Fin 32) (j : Fin 256),
    part I q.val (2 * l) d (ix2 r j) = ∑ k : Fin 128, Whole.act A l (ix2 (row q r) (col d k)) * A.wi l (ix2 (col d k) j)
  | 0, d, r, j => by
    refine (firstChunk_at (I d) q r j).trans (Finset.sum_congr rfl fun k _ => ?_)
    rw [h.x, h.wi0, cols_at, rows_at]
    rfl
  | l + 1, d, r, j => by
    have hp : part I q.val (2 * (l + 1)) d = across ((I d).next l) (down ((I d).wo l) (relu (total I q.val (2 * l + 1) d))) := by
      have e : (2 * l + 1) / 2 = l := by omega
      show part I q.val (2 * l + 1 + 1) d = _
      rw [part]
      refine (if_neg (by omega)).trans ?_
      rw [e]; rfl
    rw [hp, across_at]
    refine Finset.sum_congr rfl fun k _ => ?_
    rw [h.next_at, down_total h d (fun r j => total_at (part_at h q l) d r j)]
    rfl

/-- A device's result is its columns of what the reference computes. -/
theorem outAt_block (h : Given I A) (c : Dev nD) :
    outAt I c = Layout.block ⟨2, ![128, 128]⟩ ⟨2, ![128, 2048]⟩ 1 16 c (Whole.act A 3) := by
  funext i
  obtain ⟨r, k, rfl⟩ : ∃ (r : Fin 128) (k : Fin 128), i = ix2 r k := ⟨i 0, i 1, eq_ix2 i⟩
  let q : Fin 4 := ⟨r.val / 32, by omega⟩
  let s : Fin 32 := ⟨r.val % 32, Nat.mod_lt _ (by decide)⟩
  have hr : row q s = r := Fin.ext (Nat.div_add_mod _ _)
  rw [cols_at]
  refine (outAll_at I c _ q.val q.isLt (ix2 r k) (ix2 s k) (Nat.div_add_mod _ _).symm rfl).trans ?_
  rw [← hr]
  exact down_total (l := 2) h c (fun r j => total_at (part_at h q 2) c r j) s k

end Cert.Mlp

end

end
-- ==== Proof.Equation.lean ====
/-
The claim about values: the kernel's run and the reference's, from memories that agree, end with the same result.
-/
module

public import proofs.«01_k».proof.Proof.Frames
public import proofs.«01_k».proof.Proof.Blocks

@[expose] public section

noncomputable section

namespace Cert.Mlp

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (c : Dev nD)

/-! ## The windows are whole arrays -/

/-- A block that starts at block index zero and has the size of its array is the array. -/
theorem read_all (b : Ref sig .tc) (k : Fin b.ty.shape.rank → ℕ) (hk : ∀ a, k a = 0)
    (inb : ∀ a, k a * b.ty.shape.size a + b.ty.shape.size a ≤ b.ty.shape.size a) (f : b.ty.Contents (Elt F)) :
    ((Memref.whole b).access (Rect.unit (fun a => k a * b.ty.shape.size a) b.ty.shape.size inb) : View sig .tc _ _ _).read (Elt F) f = f :=
  Memref.read_access_unit_zero (Elt F) b (funext fun a => by rw [hk a, Nat.zero_mul]) inb f

/-- What a device is given is its argument arrays. -/
theorem ins_x : (ins m c).x = m ((c : Thread nD τ).loc main_arg0) := by
  have h := fun f => read_all (F := F) main_arg0 (win0_0.index (0 : Fin 1)) (by decide) (by decide) f
  exact h _
theorem ins_wi0 : (ins m c).wi0 = m ((c : Thread nD τ).loc main_arg1) := by
  have h := fun f => read_all (F := F) main_arg1 (win0_1.index (0 : Fin 1)) (by decide) (by decide) f
  exact h _
theorem ins_wo0 : (ins m c).wo0 = m ((c : Thread nD τ).loc main_arg2) := by
  have h := fun f => read_all (F := F) main_arg2 (win0_2.index (0 : Fin 1)) (by decide) (by decide) f
  exact h _
theorem ins_wi1 : (ins m c).wi1 = m ((c : Thread nD τ).loc main_arg3) := by
  have h := fun f => read_all (F := F) main_arg3 (win0_3.index (0 : Fin 1)) (by decide) (by decide) f
  exact h _
theorem ins_wo1 : (ins m c).wo1 = m ((c : Thread nD τ).loc main_arg4) := by
  have h := fun f => read_all (F := F) main_arg4 (win0_4.index (0 : Fin 1)) (by decide) (by decide) f
  exact h _
theorem ins_wi2 : (ins m c).wi2 = m ((c : Thread nD τ).loc main_arg5) := by
  have h := fun f => read_all (F := F) main_arg5 (win0_5.index (0 : Fin 1)) (by decide) (by decide) f
  exact h _
theorem ins_wo2 : (ins m c).wo2 = m ((c : Thread nD τ).loc main_arg6) := by
  have h := fun f => read_all (F := F) main_arg6 (win0_6.index (0 : Fin 1)) (by decide) (by decide) f
  exact h _

/-- The result array after the run holds what the body left in its staging buffer. -/
theorem finalA_out : finalA m c (7 : Fin 8) = outAt (ins m) c := by
  have h := fun f => read_all (F := F) main_v1 (win0_7.index (0 : Fin 1)) (by decide) (by decide) f
  refine (h _).symm.trans ?_
  unfold finalA
  rw [show cfg0.N = ((0 : Fin 1) : Fin cfg0.N).val + 1 from rfl, (dats m 0 c).arrAt_succ (7 : Fin 8) (0 : Fin 1)]
  rw [show (cfg0.win (7 : Fin 8)).flush (0 : Fin 1) = true from flush0_7 (0 : Fin 1), if_pos rfl]
  exact View.read_write_univ _ _

/-! ## The claim -/

/-- The whole arrays of the reference's memory. -/
def arrays (m' : (ℓ : Loc Cert.ReferenceIdeal.nD Cert.ReferenceIdeal.τ Cert.ReferenceIdeal.sig) → Buf (Elt Ideal) ℓ) : Whole.Arrays where
  x := m' (((0 : Dev Cert.ReferenceIdeal.nD).tc : Thread Cert.ReferenceIdeal.nD Cert.ReferenceIdeal.τ).loc Cert.ReferenceIdeal.main_arg0)
  wi0 := m' (((0 : Dev Cert.ReferenceIdeal.nD).tc : Thread Cert.ReferenceIdeal.nD Cert.ReferenceIdeal.τ).loc Cert.ReferenceIdeal.main_arg1)
  wo0 := m' (((0 : Dev Cert.ReferenceIdeal.nD).tc : Thread Cert.ReferenceIdeal.nD Cert.ReferenceIdeal.τ).loc Cert.ReferenceIdeal.main_arg2)
  wi1 := m' (((0 : Dev Cert.ReferenceIdeal.nD).tc : Thread Cert.ReferenceIdeal.nD Cert.ReferenceIdeal.τ).loc Cert.ReferenceIdeal.main_arg3)
  wo1 := m' (((0 : Dev Cert.ReferenceIdeal.nD).tc : Thread Cert.ReferenceIdeal.nD Cert.ReferenceIdeal.τ).loc Cert.ReferenceIdeal.main_arg4)
  wi2 := m' (((0 : Dev Cert.ReferenceIdeal.nD).tc : Thread Cert.ReferenceIdeal.nD Cert.ReferenceIdeal.τ).loc Cert.ReferenceIdeal.main_arg5)
  wo2 := m' (((0 : Dev Cert.ReferenceIdeal.nD).tc : Thread Cert.ReferenceIdeal.nD Cert.ReferenceIdeal.τ).loc Cert.ReferenceIdeal.main_arg6)

/-- From memories where each device holds its block of the reference's arrays, the kernel ends with each device holding
    its columns of the reference's result, and both programs keep their arguments. -/
theorem equation : Cert.algebraic_KernelIdeal_ReferenceIdeal := by
  intro m ρ m' ρ' _ hagree
  have hg : Given (ins m) (arrays m') :=
    ⟨fun d => (ins_x m d).trans (hagree d).1, fun d => (ins_wi0 m d).trans (hagree d).2.1,
     fun d => (ins_wo0 m d).trans (hagree d).2.2.1, fun d => (ins_wi1 m d).trans (hagree d).2.2.2.1,
     fun d => (ins_wo1 m d).trans (hagree d).2.2.2.2.1, fun d => (ins_wi2 m d).trans (hagree d).2.2.2.2.2.1,
     fun d => (ins_wo2 m d).trans (hagree d).2.2.2.2.2.2⟩
  refine ⟨Whole.act (arrays m') 3, ?_, ?_⟩
  · exact (θ_run defs _ _).mono
      (fun _ h c => ⟨(h.1 c (7 : Fin 8)).trans ((finalA_out m c).trans (outAt_block hg c)), kept_of m h.1 c⟩)
      (run_main (F := Ideal) m ρ)
  · exact (θ_run Cert.ReferenceIdeal.defs _ _).mono (fun _ h => h 0) (Cert.ReferenceIdeal.Value.run (F := Ideal) m' ρ')

end Cert.Mlp

end

end
-- ==== Proof.lean ====
/-
The claims of this certificate, put together: the frames of the three programs, that the idealized program is the
printed one's own text, and that it computes what the reference does.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts,
    Cert.Mlp.quiescent_printed, Cert.Mlp.quiescent_ideal, Cert.Mlp.quiescent_reference, trivial,
    Cert.Mlp.equation⟩

end Cert.Proof

end
